-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_and_rows [hPre_ids_and_rows : Cert.Pre_ids_and_rows.Facts] (m : (ℓ : Loc Cert.KernelIdeal.nD Cert.KernelIdeal.τ Cert.KernelIdeal.sig) → Buf (Elt Ideal) ℓ) : Prop :=
  ∀ c : Dev Cert.KernelIdeal.nD,
    (Cert.Pre_ids_and_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_ids_and_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_ids_and_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_ids_and_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_and_rows [hPre_ids_and_rows : Cert.Pre_ids_and_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_and_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_ids_and_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_ids_and_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_ids_and_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_ids_and_rows [hKernelIdeal : Cert.KernelIdeal.Facts] [hPre_ids_and_rows : Cert.Pre_ids_and_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_and_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_ids_and_rows [hReferenceIdeal : Cert.ReferenceIdeal.Facts] [hPre_ids_and_rows : Cert.Pre_ids_and_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_and_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "wide" .f32 0xC29044FE#32 (((-50) * (Real.log 2)⁻¹ : ℝ) : EReal)
  ∧ IdealRules.named_const.Statement Cert.KernelIdeal.κ "exact" .f32 0xC9301C38#32 (((-500000) * (Real.log 2)⁻¹ : ℝ) : EReal)

def algebraic_KernelIdeal_ReferenceIdeal_pre_ids_and_rows [hKernelIdeal : Cert.KernelIdeal.Facts] [hReferenceIdeal : Cert.ReferenceIdeal.Facts] [hPre_ids_and_rows : Cert.Pre_ids_and_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_and_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_ids_and_rows : Cert.Pre_ids_and_rows.Facts),
    quiescent_Kernel (hKernel := hKernel)
    ∧ quiescent_KernelIdeal (hKernelIdeal := hKernelIdeal)
    ∧ quiescent_KernelIdeal_pre_ids_and_rows (hKernelIdeal := hKernelIdeal) (hPre_ids_and_rows := hPre_ids_and_rows)
    ∧ quiescent_ReferenceIdeal (hReferenceIdeal := hReferenceIdeal)
    ∧ quiescent_ReferenceIdeal_pre_ids_and_rows (hReferenceIdeal := hReferenceIdeal) (hPre_ids_and_rows := hPre_ids_and_rows)
    ∧ preserves_Kernel_KernelIdeal
    ∧ algebraic_KernelIdeal_ReferenceIdeal_pre_ids_and_rows (hKernelIdeal := hKernelIdeal) (hReferenceIdeal := hReferenceIdeal) (hPre_ids_and_rows := hPre_ids_and_rows)
-- ==== Pre_ids_and_rows.lean ====
abbrev S256x32x1 : Shape := ⟨3, ![256, 32, 1]⟩
abbrev S256x1024x1 : Shape := ⟨3, ![256, 1024, 1]⟩
abbrev S256 : Shape := ⟨1, ![256]⟩
abbrev S50000x128 : Shape := ⟨2, ![50000, 128]⟩
abbrev S128x128x1 : Shape := ⟨3, ![128, 128, 1]⟩
abbrev S128 : Shape := ⟨1, ![128]⟩
abbrev S128x128x2 : Shape := ⟨3, ![128, 128, 2]⟩
abbrev S128x128x3 : Shape := ⟨3, ![128, 128, 3]⟩
abbrev S1x33 : Shape := ⟨2, ![1, 33]⟩
abbrev S256x32 : Shape := ⟨2, ![256, 32]⟩
abbrev S_ : Shape := ⟨0, ![]⟩
abbrev S256x32x128 : Shape := ⟨3, ![256, 32, 128]⟩
abbrev S256x1024 : Shape := ⟨2, ![256, 1024]⟩
abbrev S256x1024x128 : Shape := ⟨3, ![256, 1024, 128]⟩

class Facts : Prop where
  shapeCasts_S256x32x1_S256x32 : S256x32x1.ShapeCasts S256x32
  bcast_S_S256x32 : S_.BroadcastsInDim S256x32 (![] : Fin 0 → Fin S256x32.rank)
  bcast_S256x32_S256x32x1_0_1 : S256x32.BroadcastsInDim S256x32x1 (![0, 1] : Fin 2 → Fin S256x32x1.rank)
  shapeCasts_S256x1024x1_S256x1024 : S256x1024x1.ShapeCasts S256x1024
  bcast_S_S256x1024 : S_.BroadcastsInDim S256x1024 (![] : Fin 0 → Fin S256x1024.rank)
  bcast_S256x1024_S256x1024x1_0_1 : S256x1024.BroadcastsInDim S256x1024x1 (![0, 1] : Fin 2 → Fin S256x1024x1.rank)
  bcast_S_S256x32x1 : S_.BroadcastsInDim S256x32x1 (![] : Fin 0 → Fin S256x32x1.rank)
  bcast_S_S256x1024x1 : S_.BroadcastsInDim S256x1024x1 (![] : Fin 0 → Fin S256x1024x1.rank)
  reducesTo_S256x32x128_S256x32_d2 : S256x32x128.ReducesTo [2] S256x32
  h_S_ : 0 < S_.numel
  reducesTo_S256x1024x128_S256x1024_d2 : S256x1024x128.ReducesTo [2] S256x1024
  gather_S50000x128_S256x32x1_S256x32x128_2_0_n_n_0_2_1128_wf : GatherDims.WF S50000x128 S256x32x1 S256x32x128 [2] [0] [] [0] [] 2 ![1, 128]
  gather_S50000x128_S256x1024x1_S256x1024x128_2_0_n_n_0_2_1128_wf : GatherDims.WF S50000x128 S256x1024x1 S256x1024x128 [2] [0] [] [0] [] 2 ![1, 128]

variable [Facts]

def gather_S50000x128_S256x32x1_S256x32x128_2_0_n_n_0_2_1128 : GatherDims S50000x128 S256x32x1 S256x32x128 where
  offsetDims := [2]
  collapsedSliceDims := [0]
  operandBatchingDims := []
  startIndicesBatchingDims := []
  startIndexMap := [0]
  indexVectorDim := 2
  sliceSizes := ![1, 128]
  wf := gather_S50000x128_S256x32x1_S256x32x128_2_0_n_n_0_2_1128_wf
def gather_S50000x128_S256x1024x1_S256x1024x128_2_0_n_n_0_2_1128 : GatherDims S50000x128 S256x1024x1 S256x1024x128 where
  offsetDims := [2]
  collapsedSliceDims := [0]
  operandBatchingDims := []
  startIndicesBatchingDims := []
  startIndexMap := [0]
  indexVectorDim := 2
  sliceSizes := ![1, 128]
  wf := gather_S50000x128_S256x1024x1_S256x1024x128_2_0_n_n_0_2_1128_wf
def fn_part1 {F : FTy → Type} [FloatOps F] (main_arg0 : IVec S256x32x1 32) (main_arg1 : IVec S256x1024x1 32) (main_v7 : FVec F S256x32x128 .f32) (main_v15 : FVec F S256x1024x128 .f32) (main_v17 : IVec S256x32x1 1) (main_c_4 : IVec S_ 32) : IVec S256x32x1 1 × IVec S256x1024x1 1 × IVec S256x32 1 × IVec S256x1024 1 :=
  let main_v18 : IVec S256x32x1 32 := broadcastInDim S256x32x1 ![] bcast_S_S256x32x1 main_c_4
  let main_v19 : IVec S256x32x1 1 := cmpi .slt main_arg0 main_v18
  let main_v20 : IVec S256x32x1 1 := andi main_v17 main_v19
  let main_c_5 : IVec S_ 32 := constantI S_ 32 0#32
  let main_v21 : IVec S256x1024x1 32 := broadcastInDim S256x1024x1 ![] bcast_S_S256x1024x1 main_c_5
  let main_v22 : IVec S256x1024x1 1 := cmpi .sge main_arg1 main_v21
  let main_c_6 : IVec S_ 32 := constantI S_ 32 50000#32
  let main_v23 : IVec S256x1024x1 32 := broadcastInDim S256x1024x1 ![] bcast_S_S256x1024x1 main_c_6
  let main_v24 : IVec S256x1024x1 1 := cmpi .slt main_arg1 main_v23
  let main_v25 : IVec S256x1024x1 1 := andi main_v22 main_v24
  let main_v26 : FVec F S256x32x128 .f32 := mulf main_v7 main_v7
  let main_cst : FVec F S_ .f32 := constant S_ .f32 0x00000000#32
  let main_v27 : FVec F S256x32 .f32 := (fun x v => Host.reduceAdd x v reducesTo_S256x32x128_S256x32_d2 h_S_) main_v26 main_cst
  let main_cst_7 : FVec F S_ .f32 := constant S_ .f32 0x00000000#32
  let main_v28 : FVec F S256x32 .f32 := broadcastInDim S256x32 ![] bcast_S_S256x32 main_cst_7
  let main_v29 : IVec S256x32 1 := cmpf .ogt main_v27 main_v28
  let main_v30 : FVec F S256x1024x128 .f32 := mulf main_v15 main_v15
  let main_cst_8 : FVec F S_ .f32 := constant S_ .f32 0x00000000#32
  let main_v31 : FVec F S256x1024 .f32 := (fun x v => Host.reduceAdd x v reducesTo_S256x1024x128_S256x1024_d2 h_S_) main_v30 main_cst_8
  let main_cst_9 : FVec F S_ .f32 := constant S_ .f32 0x00000000#32
  let main_v32 : FVec F S256x1024 .f32 := broadcastInDim S256x1024 ![] bcast_S_S256x1024 main_cst_9
  let main_v33 : IVec S256x1024 1 := cmpf .ogt main_v31 main_v32
  (main_v20, main_v25, main_v29, main_v33)

def fn {F : FTy → Type} [FloatOps F] (main_arg0 : IVec S256x32x1 32) (main_arg1 : IVec S256x1024x1 32) (main_arg2 : IVec S256 32) (main_arg3 : IVec S256 32) (main_arg4 : FVec F S50000x128 .f32) (main_arg5 : FVec F S128x128x1 .f32) (main_arg6 : FVec F S128 .f32) (main_arg7 : FVec F S128x128x2 .f32) (main_arg8 : FVec F S128 .f32) (main_arg9 : FVec F S128x128x3 .f32) (main_arg10 : FVec F S128 .f32) (main_arg11 : FVec F S1x33 .f32) : IVec S256x32x1 1 × IVec S256x1024x1 1 × IVec S256x32 1 × IVec S256x1024 1 :=
  let main_v0 : IVec S256x32 32 := shapeCast S256x32 main_arg0 shapeCasts_S256x32x1_S256x32
  let main_c : IVec S_ 32 := constantI S_ 32 0#32
  let main_v1 : IVec S256x32 32 := broadcastInDim S256x32 ![] bcast_S_S256x32 main_c
  let main_v2 : IVec S256x32 1 := cmpi .slt main_v0 main_v1
  let main_c_0 : IVec S_ 32 := constantI S_ 32 50000#32
  let main_v3 : IVec S256x32 32 := broadcastInDim S256x32 ![] bcast_S_S256x32 main_c_0
  let main_v4 : IVec S256x32 32 := addi main_v0 main_v3
  let main_v5 : IVec S256x32 32 := select main_v2 main_v4 main_v0
  let main_v6 : IVec S256x32x1 32 := broadcastInDim S256x32x1 ![0, 1] bcast_S256x32_S256x32x1_0_1 main_v5
  let main_v7 : FVec F S256x32x128 .f32 := (fun x i => Host.gather gather_S50000x128_S256x32x1_S256x32x128_2_0_n_n_0_2_1128 x i) main_arg4 main_v6
  let main_v8 : IVec S256x1024 32 := shapeCast S256x1024 main_arg1 shapeCasts_S256x1024x1_S256x1024
  let main_c_1 : IVec S_ 32 := constantI S_ 32 0#32
  let main_v9 : IVec S256x1024 32 := broadcastInDim S256x1024 ![] bcast_S_S256x1024 main_c_1
  let main_v10 : IVec S256x1024 1 := cmpi .slt main_v8 main_v9
  let main_c_2 : IVec S_ 32 := constantI S_ 32 50000#32
  let main_v11 : IVec S256x1024 32 := broadcastInDim S256x1024 ![] bcast_S_S256x1024 main_c_2
  let main_v12 : IVec S256x1024 32 := addi main_v8 main_v11
  let main_v13 : IVec S256x1024 32 := select main_v10 main_v12 main_v8
  let main_v14 : IVec S256x1024x1 32 := broadcastInDim S256x1024x1 ![0, 1] bcast_S256x1024_S256x1024x1_0_1 main_v13
  let main_v15 : FVec F S256x1024x128 .f32 := (fun x i => Host.gather gather_S50000x128_S256x1024x1_S256x1024x128_2_0_n_n_0_2_1128 x i) main_arg4 main_v14
  let main_c_3 : IVec S_ 32 := constantI S_ 32 0#32
  let main_v16 : IVec S256x32x1 32 := broadcastInDim S256x32x1 ![] bcast_S_S256x32x1 main_c_3
  let main_v17 : IVec S256x32x1 1 := cmpi .sge main_arg0 main_v16
  let main_c_4 : IVec S_ 32 := constantI S_ 32 50000#32
  fn_part1 (F := F) main_arg0 main_arg1 main_v7 main_v15 main_v17 main_c_4
-- ==== Kernel.lean ====
abbrev S256x32x1 : Shape := ⟨3, ![256, 32, 1]⟩
abbrev S256x1024x1 : Shape := ⟨3, ![256, 1024, 1]⟩
abbrev S256 : Shape := ⟨1, ![256]⟩
abbrev S50000x128 : Shape := ⟨2, ![50000, 128]⟩
abbrev S128x128x1 : Shape := ⟨3, ![128, 128, 1]⟩
abbrev S128 : Shape := ⟨1, ![128]⟩
abbrev S128x128x2 : Shape := ⟨3, ![128, 128, 2]⟩
abbrev S128x128x3 : Shape := ⟨3, ![128, 128, 3]⟩
abbrev S1x33 : Shape := ⟨2, ![1, 33]⟩
abbrev S256x32 : Shape := ⟨2, ![256, 32]⟩
abbrev S_ : Shape := ⟨0, ![]⟩
abbrev S1 : Shape := ⟨1, ![1]⟩
abbrev S1x1x1 : Shape := ⟨3, ![1, 1, 1]⟩
abbrev S256x32x128 : Shape := ⟨3, ![256, 32, 128]⟩
abbrev S256x1024 : Shape := ⟨2, ![256, 1024]⟩
abbrev S256x1024x128 : Shape := ⟨3, ![256, 1024, 128]⟩
abbrev S128x128 : Shape := ⟨2, ![128, 128]⟩
abbrev S128x384 : Shape := ⟨2, ![128, 384]⟩
abbrev S384x384 : Shape := ⟨2, ![384, 384]⟩
abbrev S384 : Shape := ⟨1, ![384]⟩
abbrev S1x384 : Shape := ⟨2, ![1, 384]⟩
abbrev S256x1x1 : Shape := ⟨3, ![256, 1, 1]⟩
abbrev S1x32x128 : Shape := ⟨3, ![1, 32, 128]⟩
abbrev S1x1024x128 : Shape := ⟨3, ![1, 1024, 128]⟩
abbrev S1032x128 : Shape := ⟨2, ![1032, 128]⟩
abbrev S32x128 : Shape := ⟨2, ![32, 128]⟩
abbrev S1024x128 : Shape := ⟨2, ![1024, 128]⟩
abbrev S1024 : Shape := ⟨1, ![1024]⟩
abbrev S1024x1 : Shape := ⟨2, ![1024, 1]⟩
abbrev S32 : Shape := ⟨1, ![32]⟩
abbrev S32x1 : Shape := ⟨2, ![32, 1]⟩
abbrev S8x128 : Shape := ⟨2, ![8, 128]⟩
abbrev S1x128 : Shape := ⟨2, ![1, 128]⟩
abbrev S31x128 : Shape := ⟨2, ![31, 128]⟩
abbrev S30x128 : Shape := ⟨2, ![30, 128]⟩
abbrev S32x384 : Shape := ⟨2, ![32, 384]⟩
abbrev S32x33 : Shape := ⟨2, ![32, 33]⟩
abbrev S264x128 : Shape := ⟨2, ![264, 128]⟩
abbrev S256x128 : Shape := ⟨2, ![256, 128]⟩
abbrev S256x384 : Shape := ⟨2, ![256, 384]⟩
abbrev S32x256 : Shape := ⟨2, ![32, 256]⟩
abbrev S1x32x33 : Shape := ⟨3, ![1, 32, 33]⟩
abbrev S1x1 : Shape := ⟨2, ![1, 1]⟩

abbrev nBuf : Space → Nat
  | .hbm => 86
  | .vmem => 10
  | .smem => 0
  | _ => 0

abbrev bufTy : (tb : Table) → Fin (tcTables nBuf tb) → BufTy
  | .hbm, ⟨0, _⟩ => ⟨S256x32x1, .i32⟩
  | .hbm, ⟨1, _⟩ => ⟨S256x1024x1, .i32⟩
  | .hbm, ⟨2, _⟩ => ⟨S256, .i32⟩
  | .hbm, ⟨3, _⟩ => ⟨S256, .i32⟩
  | .hbm, ⟨4, _⟩ => ⟨S50000x128, .f32⟩
  | .hbm, ⟨5, _⟩ => ⟨S128x128x1, .f32⟩
  | .hbm, ⟨6, _⟩ => ⟨S128, .f32⟩
  | .hbm, ⟨7, _⟩ => ⟨S128x128x2, .f32⟩
  | .hbm, ⟨8, _⟩ => ⟨S128, .f32⟩
  | .hbm, ⟨9, _⟩ => ⟨S128x128x3, .f32⟩
  | .hbm, ⟨10, _⟩ => ⟨S128, .f32⟩
  | .hbm, ⟨11, _⟩ => ⟨S1x33, .f32⟩
  | .hbm, ⟨12, _⟩ => ⟨S256x32, .i32⟩
  | .hbm, ⟨13, _⟩ => ⟨S_, .i32⟩
  | .hbm, ⟨14, _⟩ => ⟨S256x32, .i32⟩
  | .hbm, ⟨15, _⟩ => ⟨S256x32, .i1⟩
  | .hbm, ⟨16, _⟩ => ⟨S_, .i32⟩
  | .hbm, ⟨17, _⟩ => ⟨S256x32, .i32⟩
  | .hbm, ⟨18, _⟩ => ⟨S256x32, .i32⟩
  | .hbm, ⟨19, _⟩ => ⟨S256x32, .i32⟩
  | .hbm, ⟨20, _⟩ => ⟨S256x32x1, .i32⟩
  | .hbm, ⟨21, _⟩ => ⟨S1, .i32⟩
  | .hbm, ⟨22, _⟩ => ⟨S_, .i32⟩
  | .hbm, ⟨23, _⟩ => ⟨S256x32x1, .i32⟩
  | .hbm, ⟨24, _⟩ => ⟨S256x32x1, .i1⟩
  | .hbm, ⟨25, _⟩ => ⟨S1x1x1, .i32⟩
  | .hbm, ⟨26, _⟩ => ⟨S256x32x1, .i32⟩
  | .hbm, ⟨27, _⟩ => ⟨S256x32x1, .i1⟩
  | .hbm, ⟨28, _⟩ => ⟨S256x32x1, .i1⟩
  | .hbm, ⟨29, _⟩ => ⟨S_, .i1⟩
  | .hbm, ⟨30, _⟩ => ⟨S256x32, .i1⟩
  | .hbm, ⟨31, _⟩ => ⟨S256x32x128, .f32⟩
  | .hbm, ⟨32, _⟩ => ⟨S256x32x128, .i1⟩
  | .hbm, ⟨33, _⟩ => ⟨S_, .f32⟩
  | .hbm, ⟨34, _⟩ => ⟨S256x32x128, .f32⟩
  | .hbm, ⟨35, _⟩ => ⟨S256x32x128, .f32⟩
  | .hbm, ⟨36, _⟩ => ⟨S256x1024, .i32⟩
  | .hbm, ⟨37, _⟩ => ⟨S_, .i32⟩
  | .hbm, ⟨38, _⟩ => ⟨S256x1024, .i32⟩
  | .hbm, ⟨39, _⟩ => ⟨S256x1024, .i1⟩
  | .hbm, ⟨40, _⟩ => ⟨S_, .i32⟩
  | .hbm, ⟨41, _⟩ => ⟨S256x1024, .i32⟩
  | .hbm, ⟨42, _⟩ => ⟨S256x1024, .i32⟩
  | .hbm, ⟨43, _⟩ => ⟨S256x1024, .i32⟩
  | .hbm, ⟨44, _⟩ => ⟨S256x1024x1, .i32⟩
  | .hbm, ⟨45, _⟩ => ⟨S1, .i32⟩
  | .hbm, ⟨46, _⟩ => ⟨S_, .i32⟩
  | .hbm, ⟨47, _⟩ => ⟨S256x1024x1, .i32⟩
  | .hbm, ⟨48, _⟩ => ⟨S256x1024x1, .i1⟩
  | .hbm, ⟨49, _⟩ => ⟨S1x1x1, .i32⟩
  | .hbm, ⟨50, _⟩ => ⟨S256x1024x1, .i32⟩
  | .hbm, ⟨51, _⟩ => ⟨S256x1024x1, .i1⟩
  | .hbm, ⟨52, _⟩ => ⟨S256x1024x1, .i1⟩
  | .hbm, ⟨53, _⟩ => ⟨S_, .i1⟩
  | .hbm, ⟨54, _⟩ => ⟨S256x1024, .i1⟩
  | .hbm, ⟨55, _⟩ => ⟨S256x1024x128, .f32⟩
  | .hbm, ⟨56, _⟩ => ⟨S256x1024x128, .i1⟩
  | .hbm, ⟨57, _⟩ => ⟨S_, .f32⟩
  | .hbm, ⟨58, _⟩ => ⟨S256x1024x128, .f32⟩
  | .hbm, ⟨59, _⟩ => ⟨S256x1024x128, .f32⟩
  | .hbm, ⟨60, _⟩ => ⟨S_, .f32⟩
  | .hbm, ⟨61, _⟩ => ⟨S128x128, .f32⟩
  | .hbm, ⟨62, _⟩ => ⟨S128x128, .f32⟩
  | .hbm, ⟨63, _⟩ => ⟨S128x128, .f32⟩
  | .hbm, ⟨64, _⟩ => ⟨S128x128x1, .f32⟩
  | .hbm, ⟨65, _⟩ => ⟨S128x128, .f32⟩
  | .hbm, ⟨66, _⟩ => ⟨S128x128, .f32⟩
  | .hbm, ⟨67, _⟩ => ⟨S128x128x1, .f32⟩
  | .hbm, ⟨68, _⟩ => ⟨S128x128, .f32⟩
  | .hbm, ⟨69, _⟩ => ⟨S128x128, .f32⟩
  | .hbm, ⟨70, _⟩ => ⟨S128x128x1, .f32⟩
  | .hbm, ⟨71, _⟩ => ⟨S128x128, .f32⟩
  | .hbm, ⟨72, _⟩ => ⟨S128x128, .f32⟩
  | .hbm, ⟨73, _⟩ => ⟨S128x128x1, .f32⟩
  | .hbm, ⟨74, _⟩ => ⟨S128x128, .f32⟩
  | .hbm, ⟨75, _⟩ => ⟨S128x128, .f32⟩
  | .hbm, ⟨76, _⟩ => ⟨S128x128x1, .f32⟩
  | .hbm, ⟨77, _⟩ => ⟨S128x128, .f32⟩
  | .hbm, ⟨78, _⟩ => ⟨S128x128, .f32⟩
  | .hbm, ⟨79, _⟩ => ⟨S128x384, .f32⟩
  | .hbm, ⟨80, _⟩ => ⟨S128x384, .f32⟩
  | .hbm, ⟨81, _⟩ => ⟨S128x384, .f32⟩
  | .hbm, ⟨82, _⟩ => ⟨S384x384, .f32⟩
  | .hbm, ⟨83, _⟩ => ⟨S384, .f32⟩
  | .hbm, ⟨84, _⟩ => ⟨S1x384, .f32⟩
  | .hbm, ⟨85, _⟩ => ⟨S256x1x1, .f32⟩
  | .local _ .vmem, ⟨0, _⟩ => ⟨S1x32x128, .f32⟩
  | .local _ .vmem, ⟨1, _⟩ => ⟨S1x32x128, .f32⟩
  | .local _ .vmem, ⟨2, _⟩ => ⟨S1x1024x128, .f32⟩
  | .local _ .vmem, ⟨3, _⟩ => ⟨S1x1024x128, .f32⟩
  | .local _ .vmem, ⟨4, _⟩ => ⟨S384x384, .f32⟩
  | .local _ .vmem, ⟨5, _⟩ => ⟨S1x384, .f32⟩
  | .local _ .vmem, ⟨6, _⟩ => ⟨S1x33, .f32⟩
  | .local _ .vmem, ⟨7, _⟩ => ⟨S1x1x1, .f32⟩
  | .local _ .vmem, ⟨8, _⟩ => ⟨S1x1x1, .f32⟩
  | .local _ .vmem, ⟨9, _⟩ => ⟨S1032x128, .f32⟩
  | _, _ => ⟨S256x32x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v1 : Ref sig .tc := ⟨.hbm, 35, rfl⟩
abbrev main_v2 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v3 : Ref sig .tc := ⟨.hbm, 59, rfl⟩
abbrev main_cst : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S384x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x33 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "exact" => some (((-500000) * (Real.log 2)⁻¹ : ℝ) : EReal)
  | "wide" => some (((-50) * (Real.log 2)⁻¹ : ℝ) : EReal)
  | _ => none
-- ==== ReferenceIdeal.lean ====
abbrev S256x32x1 : Shape := ⟨3, ![256, 32, 1]⟩
abbrev S256x1024x1 : Shape := ⟨3, ![256, 1024, 1]⟩
abbrev S256 : Shape := ⟨1, ![256]⟩
abbrev S50000x128 : Shape := ⟨2, ![50000, 128]⟩
abbrev S128x128x1 : Shape := ⟨3, ![128, 128, 1]⟩
abbrev S128 : Shape := ⟨1, ![128]⟩
abbrev S128x128x2 : Shape := ⟨3, ![128, 128, 2]⟩
abbrev S128x128x3 : Shape := ⟨3, ![128, 128, 3]⟩
abbrev S1x33 : Shape := ⟨2, ![1, 33]⟩
abbrev S11 : Shape := ⟨1, ![11]⟩
abbrev S_ : Shape := ⟨0, ![]⟩
abbrev S256x32 : Shape := ⟨2, ![256, 32]⟩
abbrev S256x32x128 : Shape := ⟨3, ![256, 32, 128]⟩
abbrev S256x128x32 : Shape := ⟨3, ![256, 128, 32]⟩
abbrev S256x1024 : Shape := ⟨2, ![256, 1024]⟩
abbrev S256x1024x128 : Shape := ⟨3, ![256, 1024, 128]⟩
abbrev S256x128x1024 : Shape := ⟨3, ![256, 128, 1024]⟩
abbrev S128x128 : Shape := ⟨2, ![128, 128]⟩
abbrev S1x128x1 : Shape := ⟨3, ![1, 128, 1]⟩
abbrev S256x32x1024 : Shape := ⟨3, ![256, 32, 1024]⟩
abbrev S256x32x1024x1 : Shape := ⟨4, ![256, 32, 1024, 1]⟩
abbrev S1x1x1x11 : Shape := ⟨4, ![1, 1, 1, 11]⟩
abbrev S256x32x1024x11 : Shape := ⟨4, ![256, 32, 1024, 11]⟩
abbrev S256x32x11 : Shape := ⟨3, ![256, 32, 11]⟩
abbrev S256x11 : Shape := ⟨2, ![256, 11]⟩
abbrev S256x128x33 : Shape := ⟨3, ![256, 128, 33]⟩
abbrev S256x128x1025 : Shape := ⟨3, ![256, 128, 1025]⟩
abbrev S256x128x34 : Shape := ⟨3, ![256, 128, 34]⟩
abbrev S256x128x1026 : Shape := ⟨3, ![256, 128, 1026]⟩
abbrev S256x33 : Shape := ⟨2, ![256, 33]⟩
abbrev S33x1 : Shape := ⟨2, ![33, 1]⟩
abbrev S256x1 : Shape := ⟨2, ![256, 1]⟩
abbrev S256x1x1 : Shape := ⟨3, ![256, 1, 1]⟩

abbrev nBuf : Space → Nat
  | .hbm => 222
  | .vmem => 0
  | .smem => 0
  | _ => 0

abbrev hbmTy0_0 (i : Nat) : BufTy := match i % 128 with
  | 0 => ⟨S256x32x1, .i32⟩
  | 1 => ⟨S256x1024x1, .i32⟩
  | 2 => ⟨S256, .i32⟩
  | 3 => ⟨S256, .i32⟩
  | 4 => ⟨S50000x128, .f32⟩
  | 5 => ⟨S128x128x1, .f32⟩
  | 6 => ⟨S128, .f32⟩
  | 7 => ⟨S128x128x2, .f32⟩
  | 8 => ⟨S128, .f32⟩
  | 9 => ⟨S128x128x3, .f32⟩
  | 10 => ⟨S128, .f32⟩
  | 11 => ⟨S1x33, .f32⟩
  | 12 => ⟨S11, .f32⟩
  | 13 => ⟨S11, .f32⟩
  | 14 => ⟨S_, .f32⟩
  | 15 => ⟨S11, .f32⟩
  | 16 => ⟨S11, .f32⟩
  | 17 => ⟨S256x32, .i32⟩
  | 18 => ⟨S_, .i32⟩
  | 19 => ⟨S256x32, .i32⟩
  | 20 => ⟨S256x32, .i1⟩
  | 21 => ⟨S_, .i32⟩
  | 22 => ⟨S256x32, .i32⟩
  | 23 => ⟨S256x32, .i32⟩
  | 24 => ⟨S256x32, .i32⟩
  | 25 => ⟨S256x32x1, .i32⟩
  | 26 => ⟨S256x32x128, .f32⟩
  | 27 => ⟨S256x32x128, .f32⟩
  | 28 => ⟨S_, .f32⟩
  | 29 => ⟨S256x32, .f32⟩
  | 30 => ⟨S256x32x1, .f32⟩
  | 31 => ⟨S256x32x1, .f32⟩
  | 32 => ⟨S256x32x128, .f32⟩
  | 33 => ⟨S256x32x128, .f32⟩
  | 34 => ⟨S256x128x32, .f32⟩
  | 35 => ⟨S256x1024, .i32⟩
  | 36 => ⟨S_, .i32⟩
  | 37 => ⟨S256x1024, .i32⟩
  | 38 => ⟨S256x1024, .i1⟩
  | 39 => ⟨S_, .i32⟩
  | 40 => ⟨S256x1024, .i32⟩
  | 41 => ⟨S256x1024, .i32⟩
  | 42 => ⟨S256x1024, .i32⟩
  | 43 => ⟨S256x1024x1, .i32⟩
  | 44 => ⟨S256x1024x128, .f32⟩
  | 45 => ⟨S256x1024x128, .f32⟩
  | 46 => ⟨S_, .f32⟩
  | 47 => ⟨S256x1024, .f32⟩
  | 48 => ⟨S256x1024x1, .f32⟩
  | 49 => ⟨S256x1024x1, .f32⟩
  | 50 => ⟨S256x1024x128, .f32⟩
  | 51 => ⟨S256x1024x128, .f32⟩
  | 52 => ⟨S256x128x1024, .f32⟩
  | 53 => ⟨S_, .i32⟩
  | 54 => ⟨S_, .f32⟩
  | 55 => ⟨S256x128x32, .f32⟩
  | 56 => ⟨S128x128, .f32⟩
  | 57 => ⟨S256x32x128, .f32⟩
  | 58 => ⟨S256x128x32, .f32⟩
  | 59 => ⟨S1x128x1, .f32⟩
  | 60 => ⟨S256x128x32, .f32⟩
  | 61 => ⟨S256x128x32, .f32⟩
  | 62 => ⟨S256x128x32, .f32⟩
  | 63 => ⟨S_, .i32⟩
  | 64 => ⟨S_, .f32⟩
  | 65 => ⟨S256x128x1024, .f32⟩
  | 66 => ⟨S128x128, .f32⟩
  | 67 => ⟨S256x1024x128, .f32⟩
  | 68 => ⟨S256x128x1024, .f32⟩
  | 69 => ⟨S1x128x1, .f32⟩
  | 70 => ⟨S256x128x1024, .f32⟩
  | 71 => ⟨S256x128x1024, .f32⟩
  | 72 => ⟨S256x128x1024, .f32⟩
  | 73 => ⟨S256x32x1024, .f32⟩
  | 74 => ⟨S256x32x1024x1, .f32⟩
  | 75 => ⟨S1x1x1x11, .f32⟩
  | 76 => ⟨S256x32x1024x11, .f32⟩
  | 77 => ⟨S256x32x1024x11, .f32⟩
  | 78 => ⟨S256x32x1024x11, .f32⟩
  | 79 => ⟨S256x32x1024x11, .f32⟩
  | 80 => ⟨S_, .f32⟩
  | 81 => ⟨S256x32x1024x11, .f32⟩
  | 82 => ⟨S256x32x1024x11, .f32⟩
  | 83 => ⟨S11, .f32⟩
  | 84 => ⟨S1x1x1x11, .f32⟩
  | 85 => ⟨S256x32x1024x11, .f32⟩
  | 86 => ⟨S256x32x1024x11, .f32⟩
  | 87 => ⟨S256x32x1024x11, .f32⟩
  | 88 => ⟨S_, .f32⟩
  | 89 => ⟨S256x32x11, .f32⟩
  | 90 => ⟨S256x32x11, .f32⟩
  | 91 => ⟨S_, .f32⟩
  | 92 => ⟨S256x11, .f32⟩
  | 93 => ⟨S_, .i32⟩
  | 94 => ⟨S_, .f32⟩
  | 95 => ⟨S256x128x33, .f32⟩
  | 96 => ⟨S128x128x1, .f32⟩
  | 97 => ⟨S128x128, .f32⟩
  | 98 => ⟨S256x128x32, .f32⟩
  | 99 => ⟨S256x32x128, .f32⟩
  | 100 => ⟨S256x128x32, .f32⟩
  | 101 => ⟨S128x128x1, .f32⟩
  | 102 => ⟨S128x128, .f32⟩
  | 103 => ⟨S256x128x32, .f32⟩
  | 104 => ⟨S256x32x128, .f32⟩
  | 105 => ⟨S256x128x32, .f32⟩
  | 106 => ⟨S256x128x32, .f32⟩
  | 107 => ⟨S1x128x1, .f32⟩
  | 108 => ⟨S256x128x32, .f32⟩
  | 109 => ⟨S256x128x32, .f32⟩
  | 110 => ⟨S256x128x32, .f32⟩
  | 111 => ⟨S_, .i32⟩
  | 112 => ⟨S_, .f32⟩
  | 113 => ⟨S256x128x1025, .f32⟩
  | 114 => ⟨S128x128x1, .f32⟩
  | 115 => ⟨S128x128, .f32⟩
  | 116 => ⟨S256x128x1024, .f32⟩
  | 117 => ⟨S256x1024x128, .f32⟩
  | 118 => ⟨S256x128x1024, .f32⟩
  | 119 => ⟨S128x128x1, .f32⟩
  | 120 => ⟨S128x128, .f32⟩
  | 121 => ⟨S256x128x1024, .f32⟩
  | 122 => ⟨S256x1024x128, .f32⟩
  | 123 => ⟨S256x128x1024, .f32⟩
  | 124 => ⟨S256x128x1024, .f32⟩
  | 125 => ⟨S1x128x1, .f32⟩
  | 126 => ⟨S256x128x1024, .f32⟩
  | 127 => ⟨S256x128x1024, .f32⟩
  | _ => ⟨S256x32x1, .i32⟩

abbrev hbmTy0_1 (i : Nat) : BufTy := match i % 128 with
  | 0 => ⟨S256x128x1024, .f32⟩
  | 1 => ⟨S256x32x1024, .f32⟩
  | 2 => ⟨S256x32x1024x1, .f32⟩
  | 3 => ⟨S1x1x1x11, .f32⟩
  | 4 => ⟨S256x32x1024x11, .f32⟩
  | 5 => ⟨S256x32x1024x11, .f32⟩
  | 6 => ⟨S256x32x1024x11, .f32⟩
  | 7 => ⟨S256x32x1024x11, .f32⟩
  | 8 => ⟨S_, .f32⟩
  | 9 => ⟨S256x32x1024x11, .f32⟩
  | 10 => ⟨S256x32x1024x11, .f32⟩
  | 11 => ⟨S11, .f32⟩
  | 12 => ⟨S1x1x1x11, .f32⟩
  | 13 => ⟨S256x32x1024x11, .f32⟩
  | 14 => ⟨S256x32x1024x11, .f32⟩
  | 15 => ⟨S256x32x1024x11, .f32⟩
  | 16 => ⟨S_, .f32⟩
  | 17 => ⟨S256x32x11, .f32⟩
  | 18 => ⟨S256x32x11, .f32⟩
  | 19 => ⟨S_, .f32⟩
  | 20 => ⟨S256x11, .f32⟩
  | 21 => ⟨S_, .i32⟩
  | 22 => ⟨S_, .f32⟩
  | 23 => ⟨S256x128x34, .f32⟩
  | 24 => ⟨S128x128x1, .f32⟩
  | 25 => ⟨S128x128, .f32⟩
  | 26 => ⟨S256x128x32, .f32⟩
  | 27 => ⟨S256x32x128, .f32⟩
  | 28 => ⟨S256x128x32, .f32⟩
  | 29 => ⟨S128x128x1, .f32⟩
  | 30 => ⟨S128x128, .f32⟩
  | 31 => ⟨S256x128x32, .f32⟩
  | 32 => ⟨S256x32x128, .f32⟩
  | 33 => ⟨S256x128x32, .f32⟩
  | 34 => ⟨S256x128x32, .f32⟩
  | 35 => ⟨S128x128x1, .f32⟩
  | 36 => ⟨S128x128, .f32⟩
  | 37 => ⟨S256x128x32, .f32⟩
  | 38 => ⟨S256x32x128, .f32⟩
  | 39 => ⟨S256x128x32, .f32⟩
  | 40 => ⟨S256x128x32, .f32⟩
  | 41 => ⟨S1x128x1, .f32⟩
  | 42 => ⟨S256x128x32, .f32⟩
  | 43 => ⟨S256x128x32, .f32⟩
  | 44 => ⟨S256x128x32, .f32⟩
  | 45 => ⟨S_, .i32⟩
  | 46 => ⟨S_, .f32⟩
  | 47 => ⟨S256x128x1026, .f32⟩
  | 48 => ⟨S128x128x1, .f32⟩
  | 49 => ⟨S128x128, .f32⟩
  | 50 => ⟨S256x128x1024, .f32⟩
  | 51 => ⟨S256x1024x128, .f32⟩
  | 52 => ⟨S256x128x1024, .f32⟩
  | 53 => ⟨S128x128x1, .f32⟩
  | 54 => ⟨S128x128, .f32⟩
  | 55 => ⟨S256x128x1024, .f32⟩
  | 56 => ⟨S256x1024x128, .f32⟩
  | 57 => ⟨S256x128x1024, .f32⟩
  | 58 => ⟨S256x128x1024, .f32⟩
  | 59 => ⟨S128x128x1, .f32⟩
  | 60 => ⟨S128x128, .f32⟩
  | 61 => ⟨S256x128x1024, .f32⟩
  | 62 => ⟨S256x1024x128, .f32⟩
  | 63 => ⟨S256x128x1024, .f32⟩
  | 64 => ⟨S256x128x1024, .f32⟩
  | 65 => ⟨S1x128x1, .f32⟩
  | 66 => ⟨S256x128x1024, .f32⟩
  | 67 => ⟨S256x128x1024, .f32⟩
  | 68 => ⟨S256x128x1024, .f32⟩
  | 69 => ⟨S256x32x1024, .f32⟩
  | 70 => ⟨S256x32x1024x1, .f32⟩
  | 71 => ⟨S1x1x1x11, .f32⟩
  | 72 => ⟨S256x32x1024x11, .f32⟩
  | 73 => ⟨S256x32x1024x11, .f32⟩
  | 74 => ⟨S256x32x1024x11, .f32⟩
  | 75 => ⟨S256x32x1024x11, .f32⟩
  | 76 => ⟨S_, .f32⟩
  | 77 => ⟨S256x32x1024x11, .f32⟩
  | 78 => ⟨S256x32x1024x11, .f32⟩
  | 79 => ⟨S11, .f32⟩
  | 80 => ⟨S1x1x1x11, .f32⟩
  | 81 => ⟨S256x32x1024x11, .f32⟩
  | 82 => ⟨S256x32x1024x11, .f32⟩
  | 83 => ⟨S256x32x1024x11, .f32⟩
  | 84 => ⟨S_, .f32⟩
  | 85 => ⟨S256x32x11, .f32⟩
  | 86 => ⟨S256x32x11, .f32⟩
  | 87 => ⟨S_, .f32⟩
  | 88 => ⟨S256x11, .f32⟩
  | 89 => ⟨S256x33, .f32⟩
  | 90 => ⟨S33x1, .f32⟩
  | 91 => ⟨S256x1, .f32⟩
  | 92 => ⟨S256, .f32⟩
  | 93 => ⟨S256x1x1, .f32⟩
  | _ => ⟨S256x32x1, .i32⟩

abbrev hbmTy (i : Nat) : BufTy := match i / 128 with
  | 0 => hbmTy0_0 i
  | 1 => hbmTy0_1 i
  | _ => ⟨S256x32x1, .i32⟩

abbrev bufTy : (tb : Table) → Fin (tcTables nBuf tb) → BufTy
  | .hbm, ⟨i, _⟩ => hbmTy i
  | _, _ => ⟨S256x32x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_cst_1 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_c_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_call0_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_call1_v0 : Ref sig .tc := ⟨.hbm, 45, rfl⟩
abbrev main_call1_cst : Ref sig .tc := ⟨.hbm, 46, rfl⟩
abbrev main_call1_v1 : Ref sig .tc := ⟨.hbm, 47, rfl⟩
abbrev main_call1_v2 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_5 : Ref sig .tc := ⟨.hbm, 53, rfl⟩
abbrev main_call2_v0 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_6 : Ref sig .tc := ⟨.hbm, 63, rfl⟩
abbrev main_call3_v0 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_7 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_8 : Ref sig .tc := ⟨.hbm, 88, rfl⟩
abbrev main_v56 : Ref sig .tc := ⟨.hbm, 89, rfl⟩
abbrev main_v57 : Ref sig .tc := ⟨.hbm, 90, rfl⟩
abbrev main_cst_9 : Ref sig .tc := ⟨.hbm, 91, rfl⟩
abbrev main_v58 : Ref sig .tc := ⟨.hbm, 92, rfl⟩
abbrev main_c_10 : Ref sig .tc := ⟨.hbm, 93, rfl⟩
abbrev main_call4_v0 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_11 : Ref sig .tc := ⟨.hbm, 111, rfl⟩
abbrev main_call5_v0 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_12 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_13 : Ref sig .tc := ⟨.hbm, 144, rfl⟩
abbrev main_v105 : Ref sig .tc := ⟨.hbm, 145, rfl⟩
abbrev main_v106 : Ref sig .tc := ⟨.hbm, 146, rfl⟩
abbrev main_cst_14 : Ref sig .tc := ⟨.hbm, 147, rfl⟩
abbrev main_v107 : Ref sig .tc := ⟨.hbm, 148, rfl⟩
abbrev main_c_15 : Ref sig .tc := ⟨.hbm, 149, rfl⟩
abbrev main_call6_v0 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_c_16 : Ref sig .tc := ⟨.hbm, 173, rfl⟩
abbrev main_call7_v0 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_cst_17 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_cst_18 : Ref sig .tc := ⟨.hbm, 212, rfl⟩
abbrev main_v166 : Ref sig .tc := ⟨.hbm, 213, rfl⟩
abbrev main_v167 : Ref sig .tc := ⟨.hbm, 214, rfl⟩
abbrev main_cst_19 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩

abbrev nD : Nat := 1
abbrev τ : Topo := Topo.v7x

variable {F : FTy → Type} [FloatOps F]
-- ==== Proof.KernelBody.lean ====
/-
  What the kernel's body computes at one grid point, as one term of the block's inputs: the query features, four chunks
  of 256 document positions, and for each chunk the 33 columns (three document n-gram widths, eleven kernels each) that
  are added to the running [32, 33] sums.
-/
module

public import proofs.«01_k».proof.Proof.Gen.KernelIdeal.Value
public import Idealize.ShloMosaic.Lib.Pointwise

@[expose] public section

noncomputable section

namespace Cert.KernelIdeal.Body

open Idealize.ShloMosaic Idealize.ShloMosaic.TcCoe Idealize.SL.Sem Cert.KernelIdeal.Gen

variable {F : FTy → Type} [FloatOps F] [Named F]

/-- The eleven kernel centres, as the words the body subtracts. -/
def mus : Fin 11 → BitVec 32 :=
  ![0xBF666666#32, 0xBF333333#32, 0xBF000000#32, 0xBE99999A#32, 0xBDCCCCCD#32, 0x3DCCCCCD#32, 0x3E99999A#32,
    0x3F000000#32, 0x3F333333#32, 0x3F666666#32, 0x3F800000#32]

/-- The factor a kernel's squared distance is multiplied with before `exp2`: the last kernel's is its own. -/
def factor (k : Fin 11) : F .f32 :=
  if k.val = 10 then Named.named κ "exact" 0xC9301C38#32 else Named.named κ "wide" 0xC29044FE#32

/-- A column offset `128 * n` fits the query features. -/
theorem slices_q (n : Fin 3) : Shape.Slices S32x384 ![0, 128 * n.val] S32x128 := by
  revert n; decide

/-- A column offset `128 * n` fits a chunk's document features. -/
theorem slices_d (n : Fin 3) : Shape.Slices S256x384 ![0, 128 * n.val] S256x128 := by
  revert n; decide

/-- The similarities of the 32 query positions to a chunk's 256 document positions, at n-gram width `n + 1`. -/
def sim (n : Fin 3) (q : FVec F S32x384 .f32) (d : FVec F S256x384 .f32) : FVec F S32x256 .f32 :=
  matmul dot_S32x128_S256x128_S32x256_1_1_0_0_n_n (some .fp32) (extractStridedSlice S32x128 ![0, 128 * n.val] q (slices_q n))
    (extractStridedSlice S256x128 ![0, 128 * n.val] d (slices_d n)) (constant S32x256 .f32 0x00000000#32)

/-- Kernel `k` summed over a chunk's document positions, for every query position. -/
def bin (k : Fin 11) (s : FVec F S32x256 .f32) : FVec F S32x1 .f32 :=
  shapeCast S32x1
    (multiReduction .add [1] S32
      (exp2 (mulf (mulf (subf s (broadcast S32x256 (Scalar.ofBits .f32 (mus k)))) (subf s (broadcast S32x256 (Scalar.ofBits .f32 (mus k)))))
        (broadcast S32x256 (factor k))))
      0x00000000#32 reduces_S32x256_S32 (.inl rfl) rfl)
    shapeCasts_S32_S32x1

/-- Column `i` of a chunk: width `i / 11 + 1`, kernel `i % 11`. -/
def column (q : FVec F S32x384 .f32) (d : FVec F S256x384 .f32) (i : Fin 33) : FVec F S32x1 .f32 :=
  bin ⟨i.val % 11, Nat.mod_lt _ (by decide)⟩ (sim ⟨i.val / 11, by omega⟩ q d)

/-- The 33 columns of a chunk lie side by side. -/
theorem columns_fit (f : Fin 33 → FVec F S32x1 .f32) :
    Shape.Concatenates ((List.ofFn fun n : Fin 33 => (⟨S32x1, f n⟩ : (s : Shape) × (s.Idx → F .f32))).map (·.1)) S32x33 1 :=
  concatenates_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x1_S32x33_d1

/-- The running sums after one more chunk. -/
def step (acc : FVec F S32x33 .f32) (q : FVec F S32x384 .f32) (d : FVec F S256x384 .f32) : FVec F S32x33 .f32 :=
  addf acc (concatenate S32x33 1 (List.ofFn fun n : Fin 33 => (⟨S32x1, column q d n⟩ : (s : Shape) × (s.Idx → F .f32))) (columns_fit _))

/-- What the body stores, of the query features, the four chunks' document features and the output weights. -/
def score (q : FVec F S32x384 .f32) (d0 d1 d2 d3 : FVec F S256x384 .f32) (lw : FVec F S1x33 .f32) : FVec F S1x1x1 .f32 :=
  k0_pay1 (log1p (step (step (step (step (k0_pay7 (Scalar.ofBits .f32 0x00000000#32)) q d0) q d1) q d2) q d3)) lw

set_option maxRecDepth 65536

section Chunks

variable (c : Dev nD) (arg1 : Memref sig .tc .vmem S1x32x128 .f32) (harg1 : arg1.IsWhole) (arg2 : Memref sig .tc .vmem S1x1024x128 .f32) (harg2 : arg2.IsWhole) (arg3 : Memref sig .tc .vmem S384x384 .f32) (harg3 : arg3.IsWhole) (arg4 : Memref sig .tc .vmem S1x384 .f32) (harg4 : arg4.IsWhole) (arg7 : Memref sig .tc .vmem S1032x128 .f32)
    (x0 : Vec F S1x32x128 .f32) (x1 : Vec F S1x1024x128 .f32) (x2 : Vec F S384x384 .f32) (x3 : Vec F S1x384 .f32)

/-- The first chunk adds its columns to zero. -/
theorem step_first : kernelRun0_A.sl.r_43 c arg1 harg1 arg2 harg2 arg3 harg3 arg4 harg4 arg7 x0 x1 x2 x3
    = step (k0_pay7 (Scalar.ofBits .f32 0x00000000#32)) (kernelRun0_A.sl.r_2 c arg1 harg1 arg3 harg3 arg4 harg4 x0 x2 x3)
        (kernelRun0_A.sl.r_4 c arg2 harg2 arg3 harg3 arg4 harg4 arg7 x1 x2 x3) := by
  sl_kernel_rfl

/-- The second chunk adds its columns to the first's sums. -/
theorem step_second : kernelRun0_A.sl.r_81 c arg1 harg1 arg2 harg2 arg3 harg3 arg4 harg4 arg7 x0 x1 x2 x3
    = step (kernelRun0_A.sl.r_43 c arg1 harg1 arg2 harg2 arg3 harg3 arg4 harg4 arg7 x0 x1 x2 x3)
        (kernelRun0_A.sl.r_2 c arg1 harg1 arg3 harg3 arg4 harg4 x0 x2 x3)
        (kernelRun0_A.sl.r_44 c arg2 harg2 arg3 harg3 arg4 harg4 arg7 x1 x2 x3) := by
  sl_kernel_rfl

/-- The third chunk adds its columns to the second's sums. -/
theorem step_third : kernelRun0_A.sl.r_119 c arg1 harg1 arg2 harg2 arg3 harg3 arg4 harg4 arg7 x0 x1 x2 x3
    = step (kernelRun0_A.sl.r_81 c arg1 harg1 arg2 harg2 arg3 harg3 arg4 harg4 arg7 x0 x1 x2 x3)
        (kernelRun0_A.sl.r_2 c arg1 harg1 arg3 harg3 arg4 harg4 x0 x2 x3)
        (kernelRun0_A.sl.r_82 c arg2 harg2 arg3 harg3 arg4 harg4 arg7 x1 x2 x3) := by
  sl_kernel_rfl

/-- The fourth chunk adds its columns to the third's sums, and `log1p` is taken. -/
theorem step_fourth : kernelRun0_A.sl.r_156 c arg1 harg1 arg2 harg2 arg3 harg3 arg4 harg4 arg7 x0 x1 x2 x3
    = log1p (step (kernelRun0_A.sl.r_119 c arg1 harg1 arg2 harg2 arg3 harg3 arg4 harg4 arg7 x0 x1 x2 x3)
        (kernelRun0_A.sl.r_2 c arg1 harg1 arg3 harg3 arg4 harg4 x0 x2 x3)
        (kernelRun0_A.sl.r_120 c arg2 harg2 arg3 harg3 arg4 harg4 arg7 x1 x2 x3)) := by
  sl_kernel_rfl

end Chunks

/-- The scratch buffer after the body's two stores: the 1024 normalised document rows, then eight rows of zeros. -/
def scratch (x1 : Vec F S1x1024x128 .f32) : S1032x128.Idx → F .f32 := fun i =>
  if h : (i 0).val < 1024 then k0_pay2 x1 (ix2 (⟨(i 0).val, h⟩ : Fin 1024) (i 1)) else Scalar.ofBits .f32 0x00000000#32

/-- The 264 rows of the scratch buffer that chunk `n` reads, from row `256 * n`. -/
def rows (n : Fin 4) (x1 : Vec F S1x1024x128 .f32) : Vec F S264x128 .f32 := fun j =>
  scratch x1 (ix2 (⟨256 * n.val + (j 0).val, by have h1 : (j 0).val < 264 := (j 0).isLt; have h2 := n.isLt; omega⟩ : Fin 1032) (j 1))

/-- The body's two stores leave `scratch`. -/
theorem scratch_eq (x1 : Vec F S1x1024x128 .f32) :
    View.canon ([⟨Rect.unit ![1024, 0] S8x128.size inb_S1032x128_S8x128_1024_0, k0_pay3⟩,
      ⟨Rect.unit ![0, 0] S1024x128.size inb_S1032x128_S1024x128_0_0, k0_pay2 x1⟩] :
      List (View.Piece (Elt F) S1032x128 .f32)) = scratch x1 := by
  funext i
  unfold scratch
  split
  · rename_i h
    rw [View.canon_cons_of_not_mem _ _ (fun hm => by
      have h0 := (LoadRect.mem_set _).mp hm 0
      obtain ⟨k, hk, e⟩ := h0
      have : (i 0).val = 1024 + 1 * k := e
      omega)]
    have e : i = (Rect.unit (s := S1032x128) ![0, 0] S1024x128.size inb_S1032x128_S1024x128_0_0).emb
        (ix2 (⟨(i 0).val, h⟩ : Fin 1024) (i 1)) := by
      funext a
      apply Fin.ext
      match a with
      | ⟨0, _⟩ => show (i 0).val = 0 + 1 * (i 0).val; omega
      | ⟨1, _⟩ => show (i 1).val = 0 + 1 * (i 1).val; omega
    conv_lhs => rw [e]
    exact View.canon_cons_emb _ _ _ _
  · rename_i h
    have hi : (i 0).val < 1032 := (i 0).isLt
    have e : i = (Rect.unit (s := S1032x128) ![1024, 0] S8x128.size inb_S1032x128_S8x128_1024_0).emb
        (ix2 (⟨(i 0).val - 1024, by omega⟩ : Fin 8) (i 1)) := by
      funext a
      apply Fin.ext
      match a with
      | ⟨0, _⟩ => show (i 0).val = 1024 + 1 * ((i 0).val - 1024); omega
      | ⟨1, _⟩ => show (i 1).val = 0 + 1 * (i 1).val; omega
    conv_lhs => rw [e]
    exact (View.canon_cons_emb _ _ _ _).trans rfl

/-- A load of 264 rows of the scratch buffer from row `256 * n` is `rows n`. -/
theorem load_rows (n : Fin 4) (x1 : Vec F S1x1024x128 .f32) (inb : ∀ a, (![256 * n.val, 0] : Fin 2 → Nat) a + S264x128.size a ≤ S1032x128.size a) :
    (fun j => scratch x1 ((Rect.unit (s := S1032x128) ![256 * n.val, 0] S264x128.size inb).toLoadRect.idx j)) = rows n x1 := by
  funext j
  unfold rows
  congr 1
  funext a
  apply Fin.ext
  match a with
  | ⟨0, _⟩ => show 256 * n.val + 1 * (j 0).val = 256 * n.val + (j 0).val; omega
  | ⟨1, _⟩ => show 0 + 1 * (j 1).val = (j 1).val; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The document features of chunk `n`. -/
def docFeatures (n : Fin 4) (x1 : Vec F S1x1024x128 .f32) (x2 : Vec F S384x384 .f32) (x3 : Vec F S1x384 .f32) : FVec F S256x384 .f32 :=
  k0_pay8 (k0_pay4 x2) (k0_pay5 x3) (rows n x1)

/-- What the body leaves in the output block: `score` of the features. -/
theorem out_eq (c : Dev nD) (i : grid0.Coords) (arg1 : Memref sig .tc .vmem S1x32x128 .f32) (harg1 : arg1.IsWhole) (arg2 : Memref sig .tc .vmem S1x1024x128 .f32) (harg2 : arg2.IsWhole) (arg3 : Memref sig .tc .vmem S384x384 .f32) (harg3 : arg3.IsWhole) (arg4 : Memref sig .tc .vmem S1x384 .f32) (harg4 : arg4.IsWhole) (arg5 : Memref sig .tc .vmem S1x33 .f32) (harg5 : arg5.IsWhole) (arg6 : Memref sig .tc .vmem S1x1x1 .f32) (harg6 : arg6.IsWhole) (arg7 : Memref sig .tc .vmem S1032x128 .f32) (harg7 : arg7.IsWhole)
    (x0 : Vec F S1x32x128 .f32) (x1 : Vec F S1x1024x128 .f32) (x2 : Vec F S384x384 .f32) (x3 : Vec F S1x384 .f32) (x4 : Vec F S1x33 .f32) :
    out0_A_5 c i arg1 harg1 arg2 harg2 arg3 harg3 arg4 harg4 arg5 harg5 arg6 harg6 arg7 harg7 x0 x1 x2 x3 x4
      = score (k0_pay6 x0 x2 x3) (docFeatures 0 x1 x2 x3) (docFeatures 1 x1 x2 x3) (docFeatures 2 x1 x2 x3) (docFeatures 3 x1 x2 x3) x4 := by
  unfold out0_A_5
  rw [View.read_writes_junk_eq_canon]
  unfold kernelRun0_A
  dsimp only
  rw [View.canon_unit_zero (S := S1x1x1) hz3, step_fourth, step_third, step_second, step_first]
  have hq : kernelRun0_A.sl.r_2 c arg1 harg1 arg3 harg3 arg4 harg4 x0 x2 x3 = k0_pay6 x0 x2 x3 := by
    unfold kernelRun0_A.sl.r_2
    simp only [View.readAt_eq_ld, harg1.read_unread, harg3.read_unread, harg4.read_unread,
      View.ld_unit_zero (S := S1x32x128) hz3, View.ld_unit_zero (S := S384x384) hz2, View.ld_unit_zero (S := S1x384) hz2]
  have hw : kernelRun0_A.sl.r c arg3 harg3 x2 = k0_pay4 x2 := by
    unfold kernelRun0_A.sl.r
    simp only [View.readAt_eq_ld, harg3.read_unread, View.ld_unit_zero (S := S384x384) hz2]
  have hb : kernelRun0_A.sl.r_1 c arg4 harg4 x3 = k0_pay5 x3 := by
    unfold kernelRun0_A.sl.r_1
    simp only [View.readAt_eq_ld, harg4.read_unread, View.ld_unit_zero (S := S1x384) hz2]
  have hL : kernelRun0_A.sl.HS0_2 c arg2 harg2 x1 = ([⟨Rect.unit ![1024, 0] S8x128.size inb_S1032x128_S8x128_1024_0, k0_pay3⟩,
      ⟨Rect.unit ![0, 0] S1024x128.size inb_S1032x128_S1024x128_0_0, k0_pay2 x1⟩] : List (View.Piece (Elt F) S1032x128 .f32)) := by
    unfold kernelRun0_A.sl.HS0_2
    simp only [View.readAt_eq_ld, harg2.read_unread, View.ld_unit_zero (S := S1x1024x128) hz3]
  have hd0 : kernelRun0_A.sl.r_4 c arg2 harg2 arg3 harg3 arg4 harg4 arg7 x1 x2 x3 = docFeatures 0 x1 x2 x3 := by
    unfold kernelRun0_A.sl.r_4 kernelRun0_A.sl.v38
    rw [hw, hb, hL, View.readCov_eq_canon', scratch_eq]
    exact congrArg (k0_pay8 (k0_pay4 x2) (k0_pay5 x3)) (load_rows 0 x1 _)
  have hd1 : kernelRun0_A.sl.r_44 c arg2 harg2 arg3 harg3 arg4 harg4 arg7 x1 x2 x3 = docFeatures 1 x1 x2 x3 := by
    unfold kernelRun0_A.sl.r_44 kernelRun0_A.sl.v322
    rw [hw, hb, hL, View.readCov_eq_canon', scratch_eq]
    exact congrArg (k0_pay8 (k0_pay4 x2) (k0_pay5 x3)) (load_rows 1 x1 _)
  have hd2 : kernelRun0_A.sl.r_82 c arg2 harg2 arg3 harg3 arg4 harg4 arg7 x1 x2 x3 = docFeatures 2 x1 x2 x3 := by
    unfold kernelRun0_A.sl.r_82 kernelRun0_A.sl.v606
    rw [hw, hb, hL, View.readCov_eq_canon', scratch_eq]
    exact congrArg (k0_pay8 (k0_pay4 x2) (k0_pay5 x3)) (load_rows 2 x1 _)
  have hd3 : kernelRun0_A.sl.r_120 c arg2 harg2 arg3 harg3 arg4 harg4 arg7 x1 x2 x3 = docFeatures 3 x1 x2 x3 := by
    unfold kernelRun0_A.sl.r_120 kernelRun0_A.sl.v890
    rw [hw, hb, hL, View.readCov_eq_canon', scratch_eq]
    exact congrArg (k0_pay8 (k0_pay4 x2) (k0_pay5 x3)) (load_rows 3 x1 _)
  rw [hq, hd0, hd1, hd2, hd3, View.readAt_eq_ld, harg5.read_unread, View.ld_unit_zero (S := S1x33) hz2]
  rfl

end Cert.KernelIdeal.Body

end
-- ==== Proof.KernelArray.lean ====
/-
  The result array after the run: its entry of query `b` is the score of block `b` of the arrays the kernel is given.
-/
module

public import proofs.«01_k».proof.Proof.KernelBody

@[expose] public section

noncomputable section

namespace Cert.KernelIdeal.Array

open Idealize.ShloMosaic Idealize.ShloMosaic.TcCoe Idealize.SL.Sem Cert.KernelIdeal.Gen Cert.KernelIdeal.Value

variable {F : FTy → Type} [FloatOps F] [Named F]

/-- Query `b`'s rows, and its document's. -/
def queryBlock (x : Vec F S256x32x128 .f32) (b : Fin 256) : Vec F S1x32x128 .f32 := fun j => x (ix3 b (j 1) (j 2))
def docBlock (x : Vec F S256x1024x128 .f32) (b : Fin 256) : Vec F S1x1024x128 .f32 := fun j => x (ix3 b (j 1) (j 2))

/-- The result array as one function of the five arrays the kernel is given. -/
def scores (x0 : Vec F S256x32x128 .f32) (x1 : Vec F S256x1024x128 .f32) (w : Vec F S384x384 .f32) (b : Vec F S1x384 .f32)
    (lw : Vec F S1x33 .f32) : Vec F S256x1x1 .f32 := fun i =>
  Body.score (k0_pay6 (queryBlock x0 (i 0)) w b) (Body.docFeatures 0 (docBlock x1 (i 0)) w b) (Body.docFeatures 1 (docBlock x1 (i 0)) w b)
    (Body.docFeatures 2 (docBlock x1 (i 0)) w b) (Body.docFeatures 3 (docBlock x1 (i 0)) w b) lw (ix3 0 0 0)

/-- Its entry of query `n`. -/
theorem scores_at (x0 : Vec F S256x32x128 .f32) (x1 : Vec F S256x1024x128 .f32) (w : Vec F S384x384 .f32) (b : Vec F S1x384 .f32)
    (lw : Vec F S1x33 .f32) (n : Fin 256) : scores x0 x1 w b lw (ix3 n 0 0) =
  Body.score (k0_pay6 (queryBlock x0 n) w b) (Body.docFeatures 0 (docBlock x1 n) w b) (Body.docFeatures 1 (docBlock x1 n) w b)
    (Body.docFeatures 2 (docBlock x1 n) w b) (Body.docFeatures 3 (docBlock x1 n) w b) lw (ix3 0 0 0) := rfl

variable (m : (ℓ : Loc nD τ sig) → Buf (Elt F) ℓ) (ρ : Dev nD → PrngReg)

/-- The block of each window at a grid point: the point's own along the first axis, or the whole array. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

/-- A grid point as a query's number. -/
def point (t : Fin cfg0.N) : Fin 256 := ⟨t.val, lt_of_lt_of_eq t.isLt N_0⟩

theorem emb0 (t : Fin cfg0.N) (j : S1x32x128.Idx) : ((cfg0.win 0).blk t).view.emb j = ix3 (point t) (j 1) (j 2) := by
  obtain ⟨e0, e1, e2⟩ := idx0 t
  have h0 : (j 0).val < 1 := (j 0).isLt
  funext a; apply Fin.ext
  match a with
  | ⟨0, _⟩ => show win0_0.index t (0 : Fin 3) * 1 + 1 * (j 0).val = t.val; omega
  | ⟨1, _⟩ => show win0_0.index t (1 : Fin 3) * 32 + 1 * (j 1).val = (j 1).val; omega
  | ⟨2, _⟩ => show win0_0.index t (2 : Fin 3) * 128 + 1 * (j 2).val = (j 2).val; omega

theorem emb1 (t : Fin cfg0.N) (j : S1x1024x128.Idx) : ((cfg0.win 1).blk t).view.emb j = ix3 (point t) (j 1) (j 2) := by
  obtain ⟨e0, e1, e2⟩ := idx1 t
  have h0 : (j 0).val < 1 := (j 0).isLt
  funext a; apply Fin.ext
  match a with
  | ⟨0, _⟩ => show win0_1.index t (0 : Fin 3) * 1 + 1 * (j 0).val = t.val; omega
  | ⟨1, _⟩ => show win0_1.index t (1 : Fin 3) * 1024 + 1 * (j 1).val = (j 1).val; omega
  | ⟨2, _⟩ => show win0_1.index t (2 : Fin 3) * 128 + 1 * (j 2).val = (j 2).val; omega

theorem emb2 (t : Fin cfg0.N) (j : S384x384.Idx) : ((cfg0.win 2).blk t).view.emb j = j := by
  obtain ⟨e0, e1⟩ := idx2 t
  funext a; apply Fin.ext
  match a with
  | ⟨0, _⟩ => show win0_2.index t (0 : Fin 2) * 384 + 1 * (j 0).val = (j 0).val; omega
  | ⟨1, _⟩ => show win0_2.index t (1 : Fin 2) * 384 + 1 * (j 1).val = (j 1).val; omega

theorem emb3 (t : Fin cfg0.N) (j : S1x384.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 384 + 1 * (j 1).val = (j 1).val; omega

theorem emb4 (t : Fin cfg0.N) (j : S1x33.Idx) : ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 33 + 1 * (j 1).val = (j 1).val; omega

theorem emb5 (t : Fin cfg0.N) (j : S1x1x1.Idx) : ((cfg0.win 5).blk t).view.emb j = ix3 (point t) (0 : Fin 1) (0 : Fin 1) := by
  obtain ⟨e0, e1, e2⟩ := idx5 t
  have h0 : (j 0).val < 1 := (j 0).isLt
  have h1 : (j 1).val < 1 := (j 1).isLt
  have h2 : (j 2).val < 1 := (j 2).isLt
  funext a; apply Fin.ext
  match a with
  | ⟨0, _⟩ => show win0_5.index t (0 : Fin 3) * 1 + 1 * (j 0).val = t.val; omega
  | ⟨1, _⟩ => show win0_5.index t (1 : Fin 3) * 1 + 1 * (j 1).val = 0; omega
  | ⟨2, _⟩ => show win0_5.index t (2 : Fin 3) * 1 + 1 * (j 2).val = 0; omega

/-- So the blocks a grid point reads. -/
theorem iblk0_eq (c : Dev nD) (t : Fin cfg0.N) : iblk m c 0 t = queryBlock (V m c main_v1) (point t) := by
  funext j; show V m c main_v1 (((cfg0.win 0).blk t).view.emb j) = _; rw [emb0]; rfl
theorem iblk1_eq (c : Dev nD) (t : Fin cfg0.N) : iblk m c 1 t = docBlock (V m c main_v3) (point t) := by
  funext j; show V m c main_v3 (((cfg0.win 1).blk t).view.emb j) = _; rw [emb1]; rfl
theorem iblk2_eq (c : Dev nD) (t : Fin cfg0.N) : iblk m c 2 t = V m c main_v25 := by
  funext j; show V m c main_v25 (((cfg0.win 2).blk t).view.emb j) = V m c main_v25 j; rw [emb2]
theorem iblk3_eq (c : Dev nD) (t : Fin cfg0.N) : iblk m c 3 t = V m c main_v27 := by
  funext j; show V m c main_v27 (((cfg0.win 3).blk t).view.emb j) = V m c main_v27 j; rw [emb3]
theorem iblk4_eq (c : Dev nD) (t : Fin cfg0.N) : iblk m c 4 t = V m c main_arg11 := by
  funext j; show V m c main_arg11 (((cfg0.win 4).blk t).view.emb j) = V m c main_arg11 j; rw [emb4]

/-- What a grid point writes back is its block of `scores`. -/
theorem flushed5_eq (c : Dev nD) (t : Fin cfg0.N) : (dats m 0 c).flushed 5 t = ((cfg0.win 5).blk t).view.read (Elt F)
    (scores (V m c main_v1) (V m c main_v3) (V m c main_v25) (V m c main_v27) (V m c main_arg11)) := by
  rw [flushed5_A, Body.out_eq, iblk0_eq, iblk1_eq, iblk2_eq, iblk3_eq, iblk4_eq]
  funext j
  show _ = scores (V m c main_v1) (V m c main_v3) (V m c main_v25) (V m c main_v27) (V m c main_arg11) (((cfg0.win 5).blk t).view.emb j)
  rw [emb5]
  have e : ∀ j : S1x1x1.Idx, j = ix3 (0 : Fin 1) (0 : Fin 1) (0 : Fin 1) := fun j => funext fun a => by
    match a with
    | ⟨0, _⟩ => exact Subsingleton.elim (α := Fin 1) _ _
    | ⟨1, _⟩ => exact Subsingleton.elim (α := Fin 1) _ _
    | ⟨2, _⟩ => exact Subsingleton.elim (α := Fin 1) _ _
  exact congrArg (Body.score _ _ _ _ _ _) (e _)

/-- Every entry of the result array is in its query's block. -/
theorem covered5 (i : S256x1x1.Idx) : ∃ t : Fin cfg0.N, (cfg0.win 5).flush t = true ∧ i ∈ ((cfg0.win 5).blk t).view.set :=
  ⟨⟨(i 0).val, lt_of_lt_of_eq (i 0).isLt N_0.symm⟩, flush0_5 _, by
    have h := ((cfg0.win 5).blk (⟨(i 0).val, lt_of_lt_of_eq (i 0).isLt N_0.symm⟩ : Fin cfg0.N)).view.emb_mem_set (ix3 (0 : Fin 1) (0 : Fin 1) (0 : Fin 1))
    rw [emb5] at h
    have e : i = ix3 (⟨(i 0).val, (i 0).isLt⟩ : Fin 256) (0 : Fin 1) (0 : Fin 1) := funext fun a => by
      match a with
      | ⟨0, _⟩ => rfl
      | ⟨1, _⟩ => exact Subsingleton.elim (α := Fin 1) _ _
      | ⟨2, _⟩ => exact Subsingleton.elim (α := Fin 1) _ _
    rw [e]; exact h⟩

/-- The result array after the run. -/
theorem final5 (c : Dev nD) : (dats m 0 c).arrAt 5 cfg0.N
    = scores (V m c main_v1) (V m c main_v3) (V m c main_v25) (V m c main_v27) (m ((c : Thread nD τ).loc main_arg11)) :=
  ((dats m 0 c).arrAt_eq_of_cover 5 (scores (V m c main_v1) (V m c main_v3) (V m c main_v25) (V m c main_v27) (V m c main_arg11))
    (fun t _ => flushed5_eq m c t) covered5).trans (by rw [V_main_arg11])

end Cert.KernelIdeal.Array

end
-- ==== Proof.Spec.lean ====
/-
  The score of one query against one document over the extended reals, and the facts of arithmetic the two programs'
  forms of it are compared by.
-/
module

public import Idealize.ShloMosaic.Lib.Pointwise

@[expose] public section

noncomputable section

namespace Cert.Proof.Spec

open Idealize.ShloMosaic

/-- The eleven bins' centres. -/
def centre (k : Fin 11) : EReal :=
  Ideal.ofBits .f32 ((![0xBF666666#32, 0xBF333333#32, 0xBF000000#32, 0xBE99999A#32, 0xBDCCCCCD#32, 0x3DCCCCCD#32,
    0x3E99999A#32, 0x3F000000#32, 0x3F333333#32, 0x3F666666#32, 0x3F800000#32] : Fin 11 → BitVec 32) k)

/-- One over twice the square of a bin's width: the widths are 1/10, and 1/1000 for the last. -/
def rate (k : Fin 11) : ℝ := if k.val = 10 then 500000 else 50

/-- How much a similarity counts in bin `k`. -/
def weight (k : Fin 11) (s : EReal) : EReal :=
  Ideal.exp (((-rate k : ℝ) : EReal) * ((s - centre k) * (s - centre k)))

/-- A row over its length. -/
def unitRow (x : Fin 128 → EReal) (e : Fin 128) : EReal := Ideal.div (x e) (Ideal.sqrt (∑ e', x e' * x e'))

/-- A sequence of `L` rows continued by rows of zeros. -/
def padded (L : ℕ) (x : Fin L → Fin 128 → EReal) (p : ℕ) (e : Fin 128) : EReal := if h : p < L then x ⟨p, h⟩ e else 0

theorem padded_lt {L : ℕ} (x : Fin L → Fin 128 → EReal) {p : ℕ} (h : p < L) (e : Fin 128) : padded L x p e = x ⟨p, h⟩ e := dif_pos h
theorem padded_ge {L : ℕ} (x : Fin L → Fin 128 → EReal) {p : ℕ} (h : ¬ p < L) (e : Fin 128) : padded L x p e = 0 := dif_neg h

/-- Feature `f` of the n-gram of `n + 1` rows from row `p`; `W n j` is zero where `j > n`. -/
def feature (W : Fin 3 → Fin 3 → Fin 128 → Fin 128 → EReal) (β : Fin 3 → Fin 128 → EReal) (x : ℕ → Fin 128 → EReal)
    (n : Fin 3) (p : ℕ) (f : Fin 128) : EReal :=
  Ideal.tanh ((∑ j : Fin 3, ∑ e, x (p + j.val) e * W n j f e) + β n f)

/-- The similarity of the query's n-gram at `p` to the document's at `r`. -/
def similarity (W : Fin 3 → Fin 3 → Fin 128 → Fin 128 → EReal) (β : Fin 3 → Fin 128 → EReal) (q d : ℕ → Fin 128 → EReal)
    (n : Fin 3) (p r : ℕ) : EReal :=
  ∑ f, feature W β q n p f * feature W β d n r f

/-- What query position `p` gives to the total of n-gram width `n + 1` and bin `k`. -/
def count (W : Fin 3 → Fin 3 → Fin 128 → Fin 128 → EReal) (β : Fin 3 → Fin 128 → EReal) (q d : ℕ → Fin 128 → EReal)
    (n : Fin 3) (k : Fin 11) (p : ℕ) : EReal :=
  Ideal.log1p (∑ r : Fin 1024, weight k (similarity W β q d n p r.val))

/-- The width and the bin of column `i` of the 33. -/
def width (i : Fin 33) : Fin 3 := ⟨i.val / 11, by omega⟩
def bin (i : Fin 33) : Fin 11 := ⟨i.val % 11, by omega⟩

/-- The weights of the three convolutions, width by width and row by row: a convolution of width `n + 1` has none past row `n`. -/
def convW (w1 : (⟨3, ![128, 128, 1]⟩ : Shape).Idx → EReal) (w2 : (⟨3, ![128, 128, 2]⟩ : Shape).Idx → EReal)
    (w3 : (⟨3, ![128, 128, 3]⟩ : Shape).Idx → EReal) (n j : Fin 3) (f e : Fin 128) : EReal :=
  match n, j with
  | 0, 0 => w1 (ix3 f e (0 : Fin 1))
  | 1, 0 => w2 (ix3 f e (0 : Fin 2))
  | 1, 1 => w2 (ix3 f e (1 : Fin 2))
  | 2, j => w3 (ix3 f e j)
  | _, _ => 0

/-- The biases of the three convolutions. -/
def convβ (b1 b2 b3 : (⟨1, ![128]⟩ : Shape).Idx → EReal) (n : Fin 3) (f : Fin 128) : EReal :=
  match n with
  | 0 => b1 (ix1 f)
  | 1 => b2 (ix1 f)
  | 2 => b3 (ix1 f)

/-- The score: the 33 totals over the query's positions, weighted. -/
def score (W : Fin 3 → Fin 3 → Fin 128 → Fin 128 → EReal) (β : Fin 3 → Fin 128 → EReal) (q d : ℕ → Fin 128 → EReal)
    (lw : Fin 33 → EReal) : EReal :=
  ∑ i : Fin 33, (∑ p : Fin 32, count W β q d (width i) (bin i) p.val) * lw i

/-- A sum over `a * b` places, block by block. -/
theorem sum_blocks (a b : ℕ) (g : Fin (a * b) → EReal) :
    ∑ k, g k = ∑ i : Fin a, ∑ j : Fin b, g ⟨b * i.val + j.val, by
      have := i.isLt; have := j.isLt
      calc b * i.val + j.val < b * i.val + b := by omega
        _ = b * (i.val + 1) := by ring
        _ ≤ b * a := Nat.mul_le_mul_left _ (by omega)
        _ = a * b := by ring⟩ := by
  rw [← Fintype.sum_prod_type', ← finProdFinEquiv.sum_comp]
  refine Finset.sum_congr rfl fun x _ => congrArg g (Fin.ext ?_)
  simp [finProdFinEquiv, add_comm]

/-- Multiplying by the reciprocal root of a positive sum of squares is dividing by its root. -/
theorem mul_rsqrt (x s : EReal) (hs : 0 < s) : x * Ideal.rsqrt s = Ideal.div x (Ideal.sqrt s) := by
  induction s with
  | bot => simp at hs
  | top => simp [Ideal.div]
  | coe r =>
    have hr : 0 < r := by exact_mod_cast hs
    have h1 : ¬ r < 0 := not_lt.mpr hr.le
    have h2 : (Real.sqrt r : EReal) ≠ 0 := by
      exact_mod_cast (Real.sqrt_pos.mpr hr).ne'
    simp [Ideal.div, h1, hr.ne', h2, EReal.coe_inv]

/-- The hyperbolic tangent is a real number. -/
theorem tanh_real (x : EReal) : ∃ r : ℝ, Ideal.tanh x = r := by
  induction x with
  | bot => exact ⟨-1, rfl⟩
  | top => exact ⟨1, rfl⟩
  | coe r => exact ⟨_, rfl⟩

/-- A finite sum of real numbers is one. -/
theorem sum_real {ι : Type} (s : Finset ι) (g : ι → EReal) (h : ∀ i, ∃ r : ℝ, g i = r) : ∃ r : ℝ, ∑ i ∈ s, g i = r := by
  classical
  induction s using Finset.induction_on with
  | empty => exact ⟨0, by simp⟩
  | insert a s ha ih =>
    obtain ⟨r, hr⟩ := ih
    obtain ⟨t, ht⟩ := h a
    exact ⟨t + r, by rw [Finset.sum_insert ha, hr, ht]; push_cast; rfl⟩

/-- A similarity is a real number, whatever the rows. -/
theorem similarity_real (W : Fin 3 → Fin 3 → Fin 128 → Fin 128 → EReal) (β : Fin 3 → Fin 128 → EReal)
    (q d : ℕ → Fin 128 → EReal) (n : Fin 3) (p r : ℕ) : ∃ t : ℝ, similarity W β q d n p r = t :=
  sum_real _ _ fun f => by
    obtain ⟨a, ha⟩ := tanh_real ((∑ j : Fin 3, ∑ e, q (p + j.val) e * W n j f e) + β n f)
    obtain ⟨b, hb⟩ := tanh_real ((∑ j : Fin 3, ∑ e, d (r + j.val) e * W n j f e) + β n f)
    exact ⟨a * b, by unfold feature; rw [ha, hb]; push_cast; rfl⟩

/-- A bin's centre is a real number. -/
theorem centre_real (k : Fin 11) : ∃ c : ℝ, centre k = c := by
  unfold centre
  fin_cases k <;> exact ⟨_, rfl⟩

/-- The exponential to the base 2 of a square over `log 2` is the bin's weight. -/
theorem exp2_eq (k : Fin 11) (s : EReal) (h : ∃ t : ℝ, s = t) :
    Ideal.exp2 ((s - centre k) * (s - centre k) * (((-rate k) * (Real.log 2)⁻¹ : ℝ) : EReal)) = weight k s := by
  obtain ⟨t, rfl⟩ := h
  obtain ⟨c, hc⟩ := centre_real k
  unfold weight
  rw [hc, ← EReal.coe_sub, ← EReal.coe_mul, ← EReal.coe_mul, ← EReal.coe_mul]
  show ((Real.rpow 2 _ : ℝ) : EReal) = ((Real.exp _ : ℝ) : EReal)
  have h2 : Real.log 2 ≠ 0 := (Real.log_pos (by norm_num)).ne'
  rw [show ∀ x, Real.rpow 2 x = (2:ℝ) ^ x from fun _ => rfl, Real.rpow_def_of_pos (by norm_num)]
  congr 2
  field_simp

/-- A bin's width, as the quotient the reference takes. -/
def spread (k : Fin 11) : EReal := Ideal.div 1 (((if k.val = 10 then 1000 else 10 : ℝ)) : EReal)

/-- The exponential of minus half a square over the square of the width is the bin's weight. -/
theorem exp_div_eq (k : Fin 11) (s : EReal) (h : ∃ t : ℝ, s = t) :
    Ideal.exp (Ideal.div (((-(1 / 2) : ℝ) : EReal) * ((s - centre k) * (s - centre k))) (spread k * spread k)) = weight k s := by
  obtain ⟨t, rfl⟩ := h
  obtain ⟨c, hc⟩ := centre_real k
  obtain ⟨w, hw, hk, hr⟩ : ∃ w : ℝ, spread k = w ∧ w * w ≠ 0 ∧ 2⁻¹ * (w * w)⁻¹ = rate k := by
    unfold spread rate
    split
    · refine ⟨(1000 : ℝ)⁻¹, ?_, by norm_num, by norm_num⟩
      unfold Ideal.div; rw [if_neg (by norm_cast), one_mul, EReal.coe_inv]
    · refine ⟨(10 : ℝ)⁻¹, ?_, by norm_num, by norm_num⟩
      unfold Ideal.div; rw [if_neg (by norm_cast), one_mul, EReal.coe_inv]
  unfold weight Ideal.div
  rw [hc, hw, ← EReal.coe_sub, ← EReal.coe_mul, ← EReal.coe_mul, ← EReal.coe_mul, ← EReal.coe_mul,
    if_neg (by exact_mod_cast hk), ← EReal.coe_inv, ← EReal.coe_mul, ← hr]
  congr 2
  ring

/-- A bin's weight is not negative. -/
theorem weight_nonneg (k : Fin 11) (s : EReal) : 0 ≤ weight k s := by
  unfold weight
  generalize ((-rate k : ℝ) : EReal) * ((s - centre k) * (s - centre k)) = y
  induction y with
  | bot => exact le_rfl
  | top => exact le_top
  | coe r => show (0 : EReal) ≤ ((Real.exp r : ℝ) : EReal); exact_mod_cast (Real.exp_pos r).le

/-- The logarithm of one more than a number that is not negative is not negative. -/
theorem log1p_nonneg (x : EReal) (hx : 0 ≤ x) : 0 ≤ Ideal.log1p x := by
  induction x with
  | bot => simp at hx
  | top => exact le_top
  | coe r =>
    have hr : 0 ≤ r := by exact_mod_cast hx
    unfold Ideal.log1p
    rw [← EReal.coe_one, ← EReal.coe_add]
    have h1 : ¬ (1 + r ≤ 0) := by linarith
    show (0 : EReal) ≤ if 1 + r ≤ 0 then ⊥ else ((Real.log (1 + r) : ℝ) : EReal)
    rw [if_neg h1]
    exact_mod_cast Real.log_nonneg (by linarith)

/-- What a position counts is not negative. -/
theorem count_nonneg (W : Fin 3 → Fin 3 → Fin 128 → Fin 128 → EReal) (β : Fin 3 → Fin 128 → EReal)
    (q d : ℕ → Fin 128 → EReal) (n : Fin 3) (k : Fin 11) (p : ℕ) : 0 ≤ count W β q d n k p :=
  log1p_nonneg _ (Finset.sum_nonneg fun _ _ => weight_nonneg _ _)

/-- Numbers that are not negative may be added before they are multiplied. -/
theorem sum_mul_nonneg {ι : Type} (s : Finset ι) (g : ι → EReal) (h : ∀ i, 0 ≤ g i) (w : EReal) :
    (∑ i ∈ s, g i) * w = ∑ i ∈ s, g i * w := by
  classical
  induction s using Finset.induction_on with
  | empty => simp
  | insert a s ha ih =>
    rw [Finset.sum_insert ha, Finset.sum_insert ha, EReal.right_distrib_of_nonneg (h a) (Finset.sum_nonneg fun i _ => h i), ih]

/-- The score with every position's 33 counts weighted before the positions are added. -/
theorem score_eq (W : Fin 3 → Fin 3 → Fin 128 → Fin 128 → EReal) (β : Fin 3 → Fin 128 → EReal) (q d : ℕ → Fin 128 → EReal)
    (lw : Fin 33 → EReal) :
    ∑ p : Fin 32, ∑ i : Fin 33, count W β q d (width i) (bin i) p.val * lw i = score W β q d lw := by
  rw [Finset.sum_comm]
  exact Finset.sum_congr rfl fun i _ => (sum_mul_nonneg _ _ (fun _ => count_nonneg _ _ _ _ _ _ _) _).symm

end Cert.Proof.Spec

end
-- ==== Proof.KernelScore.lean ====
/-
  What the kernel's body leaves in one output block, over the extended reals: the score of the block's query rows against
  its document rows.
-/
module

public import proofs.«01_k».proof.Proof.KernelBody
public import proofs.«01_k».proof.Proof.Spec

@[expose] public section

noncomputable section

namespace Cert.KernelIdeal.Body

open Idealize.ShloMosaic Idealize.ShloMosaic.TcCoe Idealize.SL.Sem Cert.KernelIdeal.Gen Cert.Proof Cert.Proof.Spec

set_option maxRecDepth 16384

/-- Place `e` of block `j` of the 384. -/
def place (j : Fin 3) (e : Fin 128) : Fin 384 := ⟨128 * j.val + e.val, by omega⟩

/-- The weights and the biases of the three widths, as the two blocks of 384 hold them. -/
def blockW (w : Vec Ideal S384x384 .f32) (n j : Fin 3) (f e : Fin 128) : EReal := w (ix2 (place j e) (place n f))
def blockβ (b : Vec Ideal S1x384 .f32) (n : Fin 3) (f : Fin 128) : EReal := b (ix2 0 (place n f))

/-- A row times the reciprocal root of its sum of squares. -/
def scaled {L : ℕ} (x : Fin L → Fin 128 → EReal) (l : Fin L) (e : Fin 128) : EReal :=
  x l e * Ideal.rsqrt (∑ e', x l e' * x l e')

/-- The rows of a query block and of a document block. -/
def queryRows (x0 : Vec Ideal S1x32x128 .f32) (l : Fin 32) (e : Fin 128) : EReal := x0 (ix3 0 l e)
def docRows (x1 : Vec Ideal S1x1024x128 .f32) (l : Fin 1024) (e : Fin 128) : EReal := x1 (ix3 0 l e)

/-- Three rows side by side, times the 384 by 384 weights, plus the bias: a feature of the three rows. -/
theorem feature_of (w : Vec Ideal S384x384 .f32) (b : Vec Ideal S1x384 .f32) (x : ℕ → Fin 128 → EReal) (p : ℕ)
    (g : Fin 384 → EReal) (hg : ∀ j e, g (place j e) = x (p + j.val) e) (n : Fin 3) (f : Fin 128) :
    Ideal.tanh ((∑ k, g k * w (ix2 k (place n f))) + b (ix2 0 (place n f))) = feature (blockW w) (blockβ b) x n p f := by
  unfold feature
  rw [sum_blocks 3 128 (fun k => g k * w (ix2 k (place n f)))]
  congr 2
  exact Finset.sum_congr rfl fun j _ => Finset.sum_congr rfl fun e _ => congrArg (· * w (ix2 (place j e) (place n f))) (hg j e)

/-- The query features. -/
theorem query_at (x0 : Vec Ideal S1x32x128 .f32) (w : Vec Ideal S384x384 .f32) (b : Vec Ideal S1x384 .f32) (l : Fin 32)
    (n : Fin 3) (f : Fin 128) :
    k0_pay6 x0 w b (ix2 l (place n f)) = feature (blockW w) (blockβ b) (padded 32 (scaled (queryRows x0))) n l.val f := by
  pointwise [k0_pay6, k0_pay4, k0_pay5]
  refine feature_of w b _ _ _ (fun j e => ?_) n f
  have hl := l.isLt
  have he := e.isLt
  unfold padded scaled queryRows place
  fin_cases j
  · simp
  · simp [add_comm]
    split <;> split <;> first | rfl | omega
  · simp [add_comm]
    rw [dif_neg (by omega)]
    split <;> split <;> first | rfl | omega

/-- The rows a chunk reads. -/
theorem rows_at (n : Fin 4) (x1 : Vec Ideal S1x1024x128 .f32) (r : Fin 264) (e : Fin 128) :
    rows n x1 (ix2 r e) = padded 1024 (scaled (docRows x1)) (256 * n.val + r.val) e := by
  unfold rows scratch
  split
  · rename_i h
    pointwise [k0_pay2]
    exact (padded_lt (scaled (docRows x1)) (show 256 * n.val + r.val < 1024 from h) e).symm
  · rename_i h
    exact (Ideal.ofBits_zero_f32).trans (padded_ge _ (show ¬ 256 * n.val + r.val < 1024 from h) e).symm

/-- A chunk's document features. -/
theorem doc_at (n : Fin 4) (x1 : Vec Ideal S1x1024x128 .f32) (w : Vec Ideal S384x384 .f32) (b : Vec Ideal S1x384 .f32)
    (r : Fin 256) (m : Fin 3) (f : Fin 128) :
    docFeatures n x1 w b (ix2 r (place m f))
      = feature (blockW w) (blockβ b) (padded 1024 (scaled (docRows x1))) m (256 * n.val + r.val) f := by
  unfold docFeatures
  pointwise [k0_pay8, k0_pay4, k0_pay5]
  refine feature_of w b _ _ _ (fun j e => ?_) m f
  fin_cases j
  · simp [place, rows_at]
  · simp [place, rows_at, add_comm, add_assoc, add_left_comm]
  · simp [place, rows_at]
    rw [dif_neg (by omega), dif_neg (by omega)]
    congr 1
    · omega
    · exact Fin.ext (by show 256 + e.val - 128 - 128 = e.val; omega)

/-- The factor of a bin is minus its rate over `log 2`. -/
theorem factor_eq (k : Fin 11) : factor (F := Ideal) k = (((-rate k) * (Real.log 2)⁻¹ : ℝ) : EReal) := by
  unfold factor rate
  split <;> rfl

/-- One column of one chunk: the weights of the chunk's 256 similarities, added. -/
theorem column_at (c : Fin 4) (x0 : Vec Ideal S1x32x128 .f32) (x1 : Vec Ideal S1x1024x128 .f32) (w : Vec Ideal S384x384 .f32)
    (b : Vec Ideal S1x384 .f32) (i : Fin 33) (p : Fin 32) :
    column (k0_pay6 x0 w b) (docFeatures c x1 w b) i (ix2 p 0)
      = ∑ r : Fin 256, weight (Spec.bin i) (similarity (blockW w) (blockβ b) (padded 32 (scaled (queryRows x0)))
          (padded 1024 (scaled (docRows x1))) (width i) p.val (256 * c.val + r.val)) := by
  have hs : ∀ r : Fin 256, sim (width i) (k0_pay6 x0 w b) (docFeatures c x1 w b) (ix2 p r)
      = similarity (blockW w) (blockβ b) (padded 32 (scaled (queryRows x0))) (padded 1024 (scaled (docRows x1)))
          (width i) p.val (256 * c.val + r.val) := by
    intro r
    pointwise [sim]
    unfold similarity
    exact Finset.sum_congr rfl fun f _ => congrArg₂ (· * ·) (query_at x0 w b p (width i) f) (doc_at c x1 w b r (width i) f)
  show bin (Spec.bin i) (sim (width i) (k0_pay6 x0 w b) (docFeatures c x1 w b)) (ix2 p 0) = _
  pointwise [bin]
  refine Finset.sum_congr rfl fun r _ => ?_
  rw [hs, factor_eq]
  exact exp2_eq (Spec.bin i) _ (similarity_real _ _ _ _ _ _ _)

/-- Adding a chunk's columns to the running sums. -/
theorem step_at (acc : FVec Ideal S32x33 .f32) (q : FVec Ideal S32x384 .f32) (d : FVec Ideal S256x384 .f32) (p : Fin 32)
    (i : Fin 33) : step acc q d (ix2 p i) = acc (ix2 p i) + column q d i (ix2 p 0) := by
  unfold step
  show acc (ix2 p i) + concatenate S32x33 1 _ _ (ix2 p i) = _
  rw [concatenate_ofFn_unit_apply (a := 1) (s₁ := S32x1) (f := fun n => column q d n) (n := i) (i := ix2 p 0)]
  · rfl
  · rfl
  · rfl
  · intro b hb
    match b with
    | ⟨0, _⟩ => rfl
    | ⟨1, _⟩ => exact absurd rfl hb

/-- What the body leaves in the output block is the block's score. -/
theorem score_at (x0 : Vec Ideal S1x32x128 .f32) (x1 : Vec Ideal S1x1024x128 .f32) (w : Vec Ideal S384x384 .f32)
    (b : Vec Ideal S1x384 .f32) (lw : Vec Ideal S1x33 .f32) :
    score (k0_pay6 x0 w b) (docFeatures 0 x1 w b) (docFeatures 1 x1 w b) (docFeatures 2 x1 w b) (docFeatures 3 x1 w b) lw (ix3 0 0 0)
      = Spec.score (blockW w) (blockβ b) (padded 32 (scaled (queryRows x0))) (padded 1024 (scaled (docRows x1)))
          (fun i => lw (ix2 0 i)) := by
  rw [← score_eq]
  pointwise [score, k0_pay1, k0_pay7]
  refine Finset.sum_congr rfl fun p _ => Finset.sum_congr rfl fun i _ => congrArg (· * lw (ix2 0 i)) ?_
  unfold Spec.count
  rw [step_at, step_at, step_at, step_at, column_at, column_at, column_at, column_at,
    sum_blocks 4 256 (fun r => weight (Spec.bin i) (similarity (blockW w) (blockβ b) (padded 32 (scaled (queryRows x0)))
      (padded 1024 (scaled (docRows x1))) (width i) p.val r.val)), Fin.sum_univ_four]
  show Ideal.log1p (0 + _ + _ + _ + _) = _
  rw [zero_add]

end Cert.KernelIdeal.Body

end
-- ==== Proof.Lookup.lean ====
/-
  A table's rows looked up by number: the gather that takes a row of a two-axis table for every entry of a two-axis array
  of row numbers, read at an index.
-/
module

public import Idealize.ShloMosaic.Lib.Pointwise
public import Idealize.ShloMosaic.Lib.ValueIdxCore
public import Idealize.ShloMosaic.Lib.ReduceAll
public import Idealize.ShloMosaic.Lib.WordCmp

@[expose] public section

noncomputable section

namespace Cert.Proof.Lookup

open Idealize.ShloMosaic

/-- The dimension numbers of a lookup in a table of `N` rows of `E`, at `B` by `L` row numbers. -/
abbrev rowDims (N E B L : ℕ)
    (wf : GatherDims.WF ⟨2, ![N, E]⟩ ⟨3, ![B, L, 1]⟩ ⟨3, ![B, L, E]⟩ [2] [0] [] [0] [] 2 ![1, E]) :
    GatherDims ⟨2, ![N, E]⟩ ⟨3, ![B, L, 1]⟩ ⟨3, ![B, L, E]⟩ where
  offsetDims := [2]
  collapsedSliceDims := [0]
  operandBatchingDims := []
  startIndicesBatchingDims := []
  startIndexMap := [0]
  indexVectorDim := 2
  sliceSizes := ![1, E]
  wf := wf

/-- The lookup at `(b, l, e)`: place `e` of the row whose number stands at `(b, l)`, the number read signed and moved into
    the table. -/
theorem gather_rows {α : Type} {N E B L w : ℕ} (hN : 0 < N)
    (wf : GatherDims.WF ⟨2, ![N, E]⟩ ⟨3, ![B, L, 1]⟩ ⟨3, ![B, L, E]⟩ [2] [0] [] [0] [] 2 ![1, E])
    (x : (⟨2, ![N, E]⟩ : Shape).Idx → α) (ids : IVec ⟨3, ![B, L, 1]⟩ w) (b : Fin B) (l : Fin L) (e : Fin E) :
    Host.gather (rowDims N E B L wf) x ids (ix3 b l e)
      = x (ix2 ⟨min (ids (ix3 b l 0)).toInt.toNat (N - 1), by omega⟩ e) := by
  unfold Host.gather
  congr 1
  funext a
  refine Fin.ext ?_
  show (rowDims N E B L wf).start (ix3 b l e) ids a + (rowDims N E B L wf).batchCoord (ix3 b l e) a
    + (rowDims N E B L wf).offCoord (ix3 b l e) a = _
  rw [GatherDims.batchCoord_eq_zero _ _ _ List.not_mem_nil, Nat.add_zero]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N E B L wf).startIndexMap from List.mem_singleton.mpr rfl)]
    have hsi : (rowDims N E B L wf).siIdx (ix3 b l e) ⟨List.idxOf (0 : Fin 2) (rowDims N E B L wf).startIndexMap,
        List.idxOf_lt_length_iff.2 (List.mem_singleton.mpr rfl)⟩ = ix3 b l 0 := by
      funext k; refine Fin.ext ?_
      match k with
      | ⟨0, _⟩ => rfl
      | ⟨1, _⟩ => rfl
      | ⟨2, _⟩ => rfl
    rw [hsi]
    rfl
  · have h0 : (rowDims N E B L wf).start (ix3 b l e) ids (1 : Fin 2) = 0 := by
      unfold GatherDims.start
      rw [dif_neg (by simp)]
    rw [h0, Nat.zero_add]
    rfl

/-- A row number in the table's range, as such. -/
def row (i : BitVec 32) : Fin 50000 := ⟨min i.toInt.toNat 49999, by omega⟩

/-- A row number in the range is not negative, so counting it from the table's end does not apply. -/
theorem not_neg (i : BitVec 32) (h : 0 ≤ i.toInt) (j : BitVec 32) : Scalar.select (IntOp.cmpi .slt i 0#32) j i = i := by
  have : IntOp.cmpi .slt i 0#32 ≠ 1#1 := fun e => by
    have := IntOp.cmpi_slt.mp e
    have h0 : (0#32 : BitVec 32).toInt = 0 := by decide
    omega
  unfold Scalar.select
  exact if_neg this

/-- A row number in the range passes the test that it is. -/
theorem in_range (i : BitVec 32) (h : 0 ≤ i.toInt) (h' : i.toInt < 50000) :
    IntOp.andi (IntOp.andi (IntOp.cmpi .sge i 0#32) (IntOp.cmpi .sle i 49999#32)) 1#1 = 1#1 := by
  have h0 : (0#32 : BitVec 32).toInt = 0 := by decide
  have h1 : (49999#32 : BitVec 32).toInt = 49999 := by decide
  rw [IntOp.cmpi_sge.mpr (by omega), IntOp.cmpi_sle.mpr (by omega)]
  rfl

end Cert.Proof.Lookup

end
-- ==== Proof.KernelHost.lean ====
/-
  The arrays the kernel is given, as functions of the arguments: the looked-up rows, the 384 by 384 weights, the 384
  biases; and their entries over the extended reals.
-/
module

public import proofs.«01_k».proof.Proof.KernelArray
public import proofs.«01_k».proof.Proof.KernelScore
public import proofs.«01_k».proof.Proof.Lookup

@[expose] public section

noncomputable section

namespace Cert.KernelIdeal.Array

open Idealize.ShloMosaic Idealize.ShloMosaic.TcCoe Idealize.SL.Sem Cert.KernelIdeal.Gen Cert.KernelIdeal.Value Cert.Proof

section
variable {F : FTy → Type} [FloatOps F] [Named F]

/-- Row numbers, a negative one counted from the table's end. -/
def queryIds (q : IVec S256x32x1 32) : IVec S256x32x1 32 :=
  broadcastInDim S256x32x1 ![0, 1] bcast_S256x32_S256x32x1_0_1
    (select (cmpi .slt (shapeCast S256x32 q shapeCasts_S256x32x1_S256x32) (broadcastInDim S256x32 ![] bcast_S_S256x32 (constantI S_ 32 0#32)))
      (addi (shapeCast S256x32 q shapeCasts_S256x32x1_S256x32) (broadcastInDim S256x32 ![] bcast_S_S256x32 (constantI S_ 32 50000#32)))
      (shapeCast S256x32 q shapeCasts_S256x32x1_S256x32))

/-- The query's rows as the kernel is given them: the table's, or not-a-number where the number is out of range. -/
def queryTaken (emb : Vec F S50000x128 .f32) (q : IVec S256x32x1 32) : Vec F S256x32x128 .f32 :=
  select (broadcastInDim S256x32x128 ![0, 1] bcast_S256x32_S256x32x128_0_1
      (Host.reduce IntOp.andi (andi (cmpi .sge (queryIds q) (broadcastInDim S256x32x1 ![] bcast_S_S256x32x1 (constantI S_ 32 0#32)))
          (cmpi .sle (queryIds q) (broadcastInDim S256x32x1 ![0, 1, 2] bcast_S1x1x1_S256x32x1_0_1_2
            (broadcastInDim S1x1x1 ![2] bcast_S1_S1x1x1_2 (constantI S1 32 49999#32)))))
        (constantI S_ 1 1#1) reducesTo_S256x32x1_S256x32_d2 h_S_))
    (Host.gather gather_S50000x128_S256x32x1_S256x32x128_2_0_n_n_0_2_1128 emb (queryIds q))
    (broadcastInDim S256x32x128 ![] bcast_S_S256x32x128 (constant S_ .f32 0x7FC00000#32))

/-- The document's row numbers likewise. -/
def docIds (q : IVec S256x1024x1 32) : IVec S256x1024x1 32 :=
  broadcastInDim S256x1024x1 ![0, 1] bcast_S256x1024_S256x1024x1_0_1
    (select (cmpi .slt (shapeCast S256x1024 q shapeCasts_S256x1024x1_S256x1024) (broadcastInDim S256x1024 ![] bcast_S_S256x1024 (constantI S_ 32 0#32)))
      (addi (shapeCast S256x1024 q shapeCasts_S256x1024x1_S256x1024) (broadcastInDim S256x1024 ![] bcast_S_S256x1024 (constantI S_ 32 50000#32)))
      (shapeCast S256x1024 q shapeCasts_S256x1024x1_S256x1024))

/-- The document's rows as the kernel is given them: the table's, or not-a-number where the number is out of range. -/
def docTaken (emb : Vec F S50000x128 .f32) (q : IVec S256x1024x1 32) : Vec F S256x1024x128 .f32 :=
  select (broadcastInDim S256x1024x128 ![0, 1] bcast_S256x1024_S256x1024x128_0_1
      (Host.reduce IntOp.andi (andi (cmpi .sge (docIds q) (broadcastInDim S256x1024x1 ![] bcast_S_S256x1024x1 (constantI S_ 32 0#32)))
          (cmpi .sle (docIds q) (broadcastInDim S256x1024x1 ![0, 1, 2] bcast_S1x1x1_S256x1024x1_0_1_2
            (broadcastInDim S1x1x1 ![2] bcast_S1_S1x1x1_2 (constantI S1 32 49999#32)))))
        (constantI S_ 1 1#1) reducesTo_S256x1024x1_S256x1024_d2 h_S_))
    (Host.gather gather_S50000x128_S256x1024x1_S256x1024x128_2_0_n_n_0_2_1128 emb (docIds q))
    (broadcastInDim S256x1024x128 ![] bcast_S_S256x1024x128 (constant S_ .f32 0x7FC00000#32))

/-- The weights of the three convolutions in one array: block `(j, n)` is what row `j` weighs at width `n + 1`, transposed. -/
def weights (w1 : Vec F S128x128x1 .f32) (w2 : Vec F S128x128x2 .f32) (w3 : Vec F S128x128x3 .f32) : Vec F S384x384 .f32 :=
  have z : Vec F S128x128 .f32 := broadcastInDim S128x128 ![] bcast_S_S128x128 (constant S_ .f32 0x00000000#32)
  have t (x : Vec F S128x128x1 .f32) : Vec F S128x128 .f32 :=
    transpose S128x128 [1, 0] (shapeCast S128x128 x shapeCasts_S128x128x1_S128x128) transposes_S128x128_S128x128_1_0
  concatenate S384x384 0
    [⟨S128x384, concatenate S128x384 1 [⟨S128x128, t w1⟩,
      ⟨S128x128, t (extractStridedSlice S128x128x1 ![0, 0, 0] w2 slices_S128x128x2_S128x128x1_0_0_0)⟩,
      ⟨S128x128, t (extractStridedSlice S128x128x1 ![0, 0, 0] w3 slices_S128x128x3_S128x128x1_0_0_0)⟩] concatenates_S128x128_S128x128_S128x128_S128x384_d1⟩,
    ⟨S128x384, concatenate S128x384 1 [⟨S128x128, z⟩,
      ⟨S128x128, t (extractStridedSlice S128x128x1 ![0, 0, 1] w2 slices_S128x128x2_S128x128x1_0_0_1)⟩,
      ⟨S128x128, t (extractStridedSlice S128x128x1 ![0, 0, 1] w3 slices_S128x128x3_S128x128x1_0_0_1)⟩] concatenates_S128x128_S128x128_S128x128_S128x384_d1⟩,
    ⟨S128x384, concatenate S128x384 1 [⟨S128x128, z⟩, ⟨S128x128, z⟩,
      ⟨S128x128, t (extractStridedSlice S128x128x1 ![0, 0, 2] w3 slices_S128x128x3_S128x128x1_0_0_2)⟩] concatenates_S128x128_S128x128_S128x128_S128x384_d1⟩]
    concatenates_S128x384_S128x384_S128x384_S384x384_d0

/-- The biases of the three convolutions in one row. -/
def biases (b1 b2 b3 : Vec F S128 .f32) : Vec F S1x384 .f32 :=
  broadcastInDim S1x384 ![1] bcast_S384_S1x384_1
    (concatenate S384 0 [⟨S128, b1⟩, ⟨S128, b2⟩, ⟨S128, b3⟩] concatenates_S128_S128_S128_S384_d0)

variable (m : (ℓ : Loc nD τ sig) → Buf (Elt F) ℓ)

open StableHlo in
set_option maxRecDepth 1000000 in
set_option maxHeartbeats 1700000 in
/-- The query rows the kernel is given. -/
theorem V_query (c : Dev nD) : V m c main_v1 = queryTaken (m ((c : Thread nD τ).loc main_arg4)) (m ((c : Thread nD τ).loc main_arg0)) := by
  unfold V
  simp only [List.flatten_cons, List.flatten_nil, List.append_nil, List.cons_append, List.nil_append, hostOps0, hostOps0_1,
    hostOps0_2, hostOps0_3, hostOps0_4]
  after_results_simp
  rfl

open StableHlo in
set_option maxRecDepth 1000000 in
set_option maxHeartbeats 1700000 in
/-- The document rows it is given. -/
theorem V_doc (c : Dev nD) : V m c main_v3 = docTaken (m ((c : Thread nD τ).loc main_arg4)) (m ((c : Thread nD τ).loc main_arg1)) := by
  unfold V
  simp only [List.flatten_cons, List.flatten_nil, List.append_nil, List.cons_append, List.nil_append, hostOps0, hostOps0_1,
    hostOps0_2, hostOps0_3, hostOps0_4]
  after_results_simp
  rfl

open StableHlo in
set_option maxRecDepth 1000000 in
set_option maxHeartbeats 1700000 in
/-- The weights it is given. -/
theorem V_weights (c : Dev nD) : V m c main_v25 = weights (m ((c : Thread nD τ).loc main_arg5)) (m ((c : Thread nD τ).loc main_arg7)) (m ((c : Thread nD τ).loc main_arg9)) := by
  unfold V
  simp only [List.flatten_cons, List.flatten_nil, List.append_nil, List.cons_append, List.nil_append, hostOps0, hostOps0_1,
    hostOps0_2, hostOps0_3, hostOps0_4]
  after_results_simp
  rfl

open StableHlo in
set_option maxRecDepth 1000000 in
set_option maxHeartbeats 1700000 in
/-- The biases it is given. -/
theorem V_biases (c : Dev nD) : V m c main_v27 = biases (m ((c : Thread nD τ).loc main_arg6)) (m ((c : Thread nD τ).loc main_arg8)) (m ((c : Thread nD τ).loc main_arg10)) := by
  unfold V
  simp only [List.flatten_cons, List.flatten_nil, List.append_nil, List.cons_append, List.nil_append, hostOps0, hostOps0_1,
    hostOps0_2, hostOps0_3, hostOps0_4]
  after_results_simp
  rfl

end

set_option maxRecDepth 16384

/-- A row number in the range stays itself. -/
theorem queryIds_at (q : IVec S256x32x1 32) (hq : ∀ i, 0 ≤ (q i).toInt) (b : Fin 256) (l : Fin 32) :
    queryIds q (ix3 b l 0) = q (ix3 b l 0) := by
  pointwise [queryIds]
  exact Lookup.not_neg _ (hq _) _

/-- Under row numbers in the range the kernel is given the rows they number. -/
theorem queryTaken_at (emb : Vec Ideal S50000x128 .f32) (q : IVec S256x32x1 32) (hq : ∀ i, 0 ≤ (q i).toInt)
    (hq' : ∀ i, (q i).toInt < 50000) (b : Fin 256) (l : Fin 32) (e : Fin 128) :
    queryTaken emb q (ix3 b l e) = emb (ix2 (Lookup.row (q (ix3 b l 0))) e) := by
  have h := Lookup.gather_rows (by decide) gather_S50000x128_S256x32x1_S256x32x128_2_0_n_n_0_2_1128.wf emb (queryIds q) b l e
  have hi := queryIds_at q hq b l
  have h1 := hq (ix3 b l 0)
  have h2 := hq' (ix3 b l 0)
  pointwise [queryTaken]
  rw [Finset.univ_unique, Finset.fold_singleton]
  show Scalar.select (IntOp.andi (IntOp.andi (IntOp.cmpi CmpIPredicate.sge (queryIds q (ix3 b l 0)) 0#32)
    (IntOp.cmpi CmpIPredicate.sle (queryIds q (ix3 b l 0)) 49999#32)) 1#1) _ _ = _
  rw [hi, Lookup.in_range _ h1 h2]
  refine h.trans (congrArg (fun r => emb (ix2 r e)) ?_)
  apply Fin.ext
  show min (queryIds q (ix3 b l 0)).toInt.toNat (50000 - 1) = _
  rw [hi]
  rfl

/-- So with the document's. -/
theorem docIds_at (q : IVec S256x1024x1 32) (hq : ∀ i, 0 ≤ (q i).toInt) (b : Fin 256) (l : Fin 1024) :
    docIds q (ix3 b l 0) = q (ix3 b l 0) := by
  pointwise [docIds]
  exact Lookup.not_neg _ (hq _) _

/-- Under row numbers in the range the document's rows likewise. -/
theorem docTaken_at (emb : Vec Ideal S50000x128 .f32) (q : IVec S256x1024x1 32) (hq : ∀ i, 0 ≤ (q i).toInt)
    (hq' : ∀ i, (q i).toInt < 50000) (b : Fin 256) (l : Fin 1024) (e : Fin 128) :
    docTaken emb q (ix3 b l e) = emb (ix2 (Lookup.row (q (ix3 b l 0))) e) := by
  have h := Lookup.gather_rows (by decide) gather_S50000x128_S256x1024x1_S256x1024x128_2_0_n_n_0_2_1128.wf emb (docIds q) b l e
  have hi := docIds_at q hq b l
  have h1 := hq (ix3 b l 0)
  have h2 := hq' (ix3 b l 0)
  pointwise [docTaken]
  rw [Finset.univ_unique, Finset.fold_singleton]
  show Scalar.select (IntOp.andi (IntOp.andi (IntOp.cmpi CmpIPredicate.sge (docIds q (ix3 b l 0)) 0#32)
    (IntOp.cmpi CmpIPredicate.sle (docIds q (ix3 b l 0)) 49999#32)) 1#1) _ _ = _
  rw [hi, Lookup.in_range _ h1 h2]
  refine h.trans (congrArg (fun r => emb (ix2 r e)) ?_)
  apply Fin.ext
  show min (docIds q (ix3 b l 0)).toInt.toNat (50000 - 1) = _
  rw [hi]
  rfl

/-- Which block a place of the third block lies in. -/
theorem past_one (x : Fin 128) : ¬ 256 + (x : ℕ) < 128 := by omega
/-- It is past the second too. -/
theorem past_two (x : Fin 128) : ¬ 256 + (x : ℕ) - 128 < 128 := by omega
/-- Its place within the third block. -/
theorem third (x : Fin 128) : 256 + (x : ℕ) - 128 - 128 = x := by omega

/-- The weights' entries. -/
theorem weights_at (w1 : Vec Ideal S128x128x1 .f32) (w2 : Vec Ideal S128x128x2 .f32) (w3 : Vec Ideal S128x128x3 .f32) :
    Body.blockW (weights w1 w2 w3) = Spec.convW w1 w2 w3 := by
  funext n j f e
  unfold Body.blockW Body.place
  fin_cases n <;> fin_cases j <;> pointwise [weights, Spec.convW]
  all_goals simp only [past_one, past_two, third, dite_false, Fin.eta]

/-- The biases' entries. -/
theorem biases_at (b1 b2 b3 : Vec Ideal S128 .f32) : Body.blockβ (biases b1 b2 b3) = Spec.convβ b1 b2 b3 := by
  funext n f
  unfold Body.blockβ Body.place
  fin_cases n <;> pointwise [biases, Spec.convβ]
  all_goals simp only [past_one, past_two, third, dite_false, Fin.eta]

end Cert.KernelIdeal.Array

end
-- ==== Proof.Reference.lean ====
/-
  What the reference computes, over the extended reals: its score at `(b, 0, 0)`, piece by piece.
-/
module

public import proofs.«01_k».proof.Proof.Gen.ReferenceIdeal.Run
public import proofs.«01_k».proof.Proof.Spec
public import proofs.«01_k».proof.Proof.Lookup

@[expose] public section

set_option maxRecDepth 16384

noncomputable section

namespace Cert.ReferenceIdeal.Score

open Idealize.ShloMosaic Idealize.ShloMosaic.TcCoe Idealize.SL.Sem Cert.ReferenceIdeal.Gen Cert.ReferenceIdeal.Value Cert.Proof

variable (V0 : Valuation τ sig (Elt Ideal))

/-- The patterns of ten, a thousand and minus a half. -/
theorem ten : Ideal.ofBits .f32 0x41200000#32 = ((10 : ℝ) : EReal) := by
  simp [Ideal.ofBits, Ideal.ieee, -EReal.coe_mul]; norm_num
theorem thousand : Ideal.ofBits .f32 0x447A0000#32 = ((1000 : ℝ) : EReal) := by
  simp [Ideal.ofBits, Ideal.ieee, -EReal.coe_mul]; norm_num
theorem minus_half : Ideal.ofBits .f32 0xBF000000#32 = ((-(1 / 2) : ℝ) : EReal) := by
  simp [Ideal.ofBits, Ideal.ieee, -EReal.coe_mul]; norm_num

/-- The centres' table. -/
theorem centre_at (k : Fin 11) : res_main_cst V0 (ix1 k) = Spec.centre k := by
  fin_cases k <;> rfl

/-- The reciprocal widths' table. -/
theorem lit_at (k : Fin 11) : Ideal.ofBits .f32 (lit1 (S11.rowMajor (ix1 k))) = ((if k.val = 10 then 1000 else 10 : ℝ) : EReal) := by
  by_cases h : k.val = 10
  · obtain rfl : k = 10 := Fin.ext h
    exact thousand.trans (congrArg _ (if_pos rfl).symm)
  · rw [if_neg h]
    fin_cases k <;> first | exact ten | exact absurd rfl h

/-- The widths' table. -/
theorem spread_at (k : Fin 11) : res_main_v1 V0 (ix1 k) = Spec.spread k := by
  pointwise [res_main_v1]
  rw [lit_at]
  rfl

/-- The query's row numbers, a negative one counted from the table's end. -/
def queryIds (q : IVec S256x32x1 32) : IVec S256x32x1 32 :=
  have p : IVec S256x32 32 := shapeCast S256x32 q shapeCasts_S256x32x1_S256x32
  broadcastInDim S256x32x1 ![0, 1] bcast_S256x32_S256x32x1_0_1
    (select (cmpi .slt p (broadcastInDim S256x32 ![] bcast_S_S256x32 (constantI S_ 32 0#32)))
      (addi p (broadcastInDim S256x32 ![] bcast_S_S256x32 (constantI S_ 32 50000#32))) p)

/-- A row number in the range stays itself. -/
theorem queryIds_at (q : IVec S256x32x1 32) (hq : ∀ i, 0 ≤ (q i).toInt) (b : Fin 256) (l : Fin 32) :
    queryIds q (ix3 b l 0) = q (ix3 b l 0) := by
  pointwise [queryIds]
  exact Lookup.not_neg _ (hq _) _

/-- The rows the query's numbers look up in a table. -/
theorem query_gather (wf) (x : Vec Ideal S50000x128 .f32) (ids : IVec S256x32x1 32) (h : ∀ i, 0 ≤ (ids i).toInt) (b : Fin 256) (l : Fin 32)
    (e : Fin 128) : Host.gather (Lookup.rowDims 50000 128 256 32 wf) x (queryIds ids) (ix3 b l e) = x (ix2 (Lookup.row (ids (ix3 b l 0))) e) := by
  refine (Lookup.gather_rows (by decide) wf x (queryIds ids) b l e).trans (congrArg (fun r => x (ix2 r e)) (Fin.ext ?_))
  show min (queryIds ids (ix3 b l 0)).toInt.toNat (50000 - 1) = _
  rw [queryIds_at ids h b l]
  rfl

/-- The looked-up rows' entries. -/
theorem queryRow_at (hq : ∀ i : S256x32x1.Idx, 0 ≤ (V0 (Proc.devRef .tc main_arg0) i).toInt) (b : Fin 256) (l : Fin 32) (e : Fin 128) :
    res_main_v9 V0 (ix3 b l e) = V0 (Proc.devRef .tc main_arg4) (ix2 (Lookup.row (V0 (Proc.devRef .tc main_arg0) (ix3 b l 0))) e) :=
  query_gather gather_S50000x128_S256x32x1_S256x32x128_2_0_n_n_0_2_1128.wf (V0 (Proc.devRef .tc main_arg4))
    (V0 (Proc.devRef .tc main_arg0)) hq b l e

/-- Each over its length. -/
theorem queryUnit_at (b : Fin 256) (l : Fin 32) (e : Fin 128) :
    res_main_v13 V0 (ix3 b e l) = Spec.unitRow (fun e' => res_main_v9 V0 (ix3 b l e')) e := by
  pointwise [res_main_v13, Spec.unitRow]

/-- The document's row numbers likewise. -/
def docIds (q : IVec S256x1024x1 32) : IVec S256x1024x1 32 :=
  have p : IVec S256x1024 32 := shapeCast S256x1024 q shapeCasts_S256x1024x1_S256x1024
  broadcastInDim S256x1024x1 ![0, 1] bcast_S256x1024_S256x1024x1_0_1
    (select (cmpi .slt p (broadcastInDim S256x1024 ![] bcast_S_S256x1024 (constantI S_ 32 0#32)))
      (addi p (broadcastInDim S256x1024 ![] bcast_S_S256x1024 (constantI S_ 32 50000#32))) p)

/-- A row number in the range stays itself. -/
theorem docIds_at (q : IVec S256x1024x1 32) (hq : ∀ i, 0 ≤ (q i).toInt) (b : Fin 256) (l : Fin 1024) :
    docIds q (ix3 b l 0) = q (ix3 b l 0) := by
  pointwise [docIds]
  exact Lookup.not_neg _ (hq _) _

/-- The rows the document's numbers look up in a table. -/
theorem doc_gather (wf) (x : Vec Ideal S50000x128 .f32) (ids : IVec S256x1024x1 32) (h : ∀ i, 0 ≤ (ids i).toInt) (b : Fin 256) (l : Fin 1024)
    (e : Fin 128) : Host.gather (Lookup.rowDims 50000 128 256 1024 wf) x (docIds ids) (ix3 b l e) = x (ix2 (Lookup.row (ids (ix3 b l 0))) e) := by
  refine (Lookup.gather_rows (by decide) wf x (docIds ids) b l e).trans (congrArg (fun r => x (ix2 r e)) (Fin.ext ?_))
  show min (docIds ids (ix3 b l 0)).toInt.toNat (50000 - 1) = _
  rw [docIds_at ids h b l]
  rfl

/-- The looked-up rows' entries. -/
theorem docRow_at (hq : ∀ i : S256x1024x1.Idx, 0 ≤ (V0 (Proc.devRef .tc main_arg1) i).toInt) (b : Fin 256) (l : Fin 1024) (e : Fin 128) :
    res_main_v21 V0 (ix3 b l e) = V0 (Proc.devRef .tc main_arg4) (ix2 (Lookup.row (V0 (Proc.devRef .tc main_arg1) (ix3 b l 0))) e) :=
  doc_gather gather_S50000x128_S256x1024x1_S256x1024x128_2_0_n_n_0_2_1128.wf (V0 (Proc.devRef .tc main_arg4))
    (V0 (Proc.devRef .tc main_arg1)) hq b l e

/-- Each over its length. -/
theorem docUnit_at (b : Fin 256) (l : Fin 1024) (e : Fin 128) :
    res_main_v25 V0 (ix3 b e l) = Spec.unitRow (fun e' => res_main_v21 V0 (ix3 b l e')) e := by
  pointwise [res_main_v25, Spec.unitRow]

/-- A sequence continued by zeros, read at an index. -/
theorem pad_rows {L P n : ℕ} (x : Vec Ideal ⟨3, ![256, 128, L]⟩ .f32)
    (h : Shape.Pads ⟨3, ![256, 128, L]⟩ ![0, 0, 0] ![0, 0, n] ![0, 0, 0] ⟨3, ![256, 128, P]⟩) (b : Fin 256) (e : Fin 128) (p : Fin P) :
    pad ⟨3, ![256, 128, P]⟩ ![0, 0, 0] ![0, 0, n] ![0, 0, 0] x (sitofp (F := Ideal) .f32 (constantI S_ 32 0#32)) h h_S_ (ix3 b e p)
      = Spec.padded L (fun l e => x (ix3 b e l)) p.val e := by
  pointwise [Spec.padded]
  by_cases hp : p.val < L
  · rw [dif_pos hp, dif_pos hp]
    refine congrArg x (funext fun a => Fin.ext ?_)
    match a with
    | ⟨0, _⟩ => exact Nat.div_one _
    | ⟨1, _⟩ => exact Nat.div_one _
    | ⟨2, _⟩ => exact Nat.div_one _
  · rw [dif_neg hp, dif_neg hp]
    show (((0#32 : BitVec 32).toInt : ℝ) : EReal) = 0
    simp

/-- The query's rows over their lengths, continued by zeros; the document's. -/
def queryRows (b : Fin 256) : ℕ → Fin 128 → EReal := Spec.padded 32 fun l e => res_main_v13 V0 (ix3 b e l)
def docRows (b : Fin 256) : ℕ → Fin 128 → EReal := Spec.padded 1024 fun l e => res_main_v25 V0 (ix3 b e l)

/-- The convolutions' weights and biases among the arguments. -/
def argW : Fin 3 → Fin 3 → Fin 128 → Fin 128 → EReal :=
  Spec.convW (V0 (Proc.devRef .tc main_arg5)) (V0 (Proc.devRef .tc main_arg7)) (V0 (Proc.devRef .tc main_arg9))
def argβ : Fin 3 → Fin 128 → EReal :=
  Spec.convβ (V0 (Proc.devRef .tc main_arg6)) (V0 (Proc.devRef .tc main_arg8)) (V0 (Proc.devRef .tc main_arg10))

/-- A width-1 feature sums over one row. -/
theorem feature_one (x : ℕ → Fin 128 → EReal) (p : ℕ) (f : Fin 128) : Spec.feature (argW V0) (argβ V0) x 0 p f
    = Ideal.tanh ((∑ e, x p e * V0 (Proc.devRef .tc main_arg5) (ix3 f e 0)) + V0 (Proc.devRef .tc main_arg6) (ix1 f)) := by
  simp only [Spec.feature, argW, argβ, Spec.convW, Spec.convβ, Fin.sum_univ_three, mul_zero, Finset.sum_const_zero, add_zero]
  rfl

/-- A width-2 feature sums over two. -/
theorem feature_two (x : ℕ → Fin 128 → EReal) (p : ℕ) (f : Fin 128) : Spec.feature (argW V0) (argβ V0) x 1 p f
    = Ideal.tanh ((∑ e, x p e * V0 (Proc.devRef .tc main_arg7) (ix3 f e 0))
      + (∑ e, x (1 + p) e * V0 (Proc.devRef .tc main_arg7) (ix3 f e 1)) + V0 (Proc.devRef .tc main_arg8) (ix1 f)) := by
  simp only [Spec.feature, argW, argβ, Spec.convW, Spec.convβ, Fin.sum_univ_three, mul_zero, Finset.sum_const_zero, add_zero, add_comm 1 p]
  rfl

/-- A width-3 feature sums over three. -/
theorem feature_three (x : ℕ → Fin 128 → EReal) (p : ℕ) (f : Fin 128) : Spec.feature (argW V0) (argβ V0) x 2 p f
    = Ideal.tanh ((∑ e, x p e * V0 (Proc.devRef .tc main_arg9) (ix3 f e 0))
      + (∑ e, x (1 + p) e * V0 (Proc.devRef .tc main_arg9) (ix3 f e 1))
      + (∑ e, x (2 + p) e * V0 (Proc.devRef .tc main_arg9) (ix3 f e 2)) + V0 (Proc.devRef .tc main_arg10) (ix1 f)) := by
  simp only [Spec.feature, argW, argβ, Spec.convW, Spec.convβ, Fin.sum_univ_three, add_comm 1 p, add_comm 2 p]
  rfl

/-- Similarities less a bin's centre, at width 1. -/
theorem apart_one (b : Fin 256) (p : Fin 32) (r : Fin 1024) (k : Fin 11) : res_main_v47 V0 (ix4 b p r k)
    = Spec.similarity (argW V0) (argβ V0) (queryRows V0 b) (docRows V0 b) 0 p r - Spec.centre k := by
  have h1 := pad_rows (res_main_v13 V0) pads_S256x128x32_S256x128x32_000_000_000
  have h2 := pad_rows (res_main_v25 V0) pads_S256x128x1024_S256x128x1024_000_000_000
  unfold res_main_v47
  generalize pad S256x128x32 _ _ _ (res_main_v13 V0) _ _ _ = x at h1 ⊢
  generalize pad S256x128x1024 _ _ _ (res_main_v25 V0) _ _ _ = y at h2 ⊢
  pointwise [Spec.similarity, feature_one, queryRows, docRows]
  simp only [h1, h2, centre_at]

/-- At width 2. -/
theorem apart_two (b : Fin 256) (p : Fin 32) (r : Fin 1024) (k : Fin 11) : res_main_v96 V0 (ix4 b p r k)
    = Spec.similarity (argW V0) (argβ V0) (queryRows V0 b) (docRows V0 b) 1 p r - Spec.centre k := by
  have h1 := pad_rows (res_main_v13 V0) pads_S256x128x32_S256x128x33_000_000_010
  have h2 := pad_rows (res_main_v25 V0) pads_S256x128x1024_S256x128x1025_000_000_010
  change ∀ b e p, res_main_v59 V0 (ix3 b e p) = _ at h1
  change ∀ b e p, res_main_v75 V0 (ix3 b e p) = _ at h2
  pointwise [res_main_v96, Spec.similarity, feature_two, queryRows, docRows]
  simp only [h1, h2, centre_at]

/-- At width 3. -/
theorem apart_three (b : Fin 256) (p : Fin 32) (r : Fin 1024) (k : Fin 11) : res_main_v157 V0 (ix4 b p r k)
    = Spec.similarity (argW V0) (argβ V0) (queryRows V0 b) (docRows V0 b) 2 p r - Spec.centre k := by
  have h1 := pad_rows (res_main_v13 V0) pads_S256x128x32_S256x128x34_000_000_020
  have h2 := pad_rows (res_main_v25 V0) pads_S256x128x1024_S256x128x1026_000_000_020
  change ∀ b e p, res_main_v108 V0 (ix3 b e p) = _ at h1
  change ∀ b e p, res_main_v130 V0 (ix3 b e p) = _ at h2
  pointwise [res_main_v157, Spec.similarity, feature_three, queryRows, docRows]
  simp only [h1, h2, centre_at]

/-- One width's eleven totals, from the similarities less the bins' centres and the bins' widths. -/
def totals {F : FTy → Type} [FloatOps F] (t : Vec F S256x32x1024x11 .f32) (w : Vec F S11 .f32) : Vec F S256x11 .f32 :=
  Host.reduceAdd (Host.log1p (Host.reduceAdd (Host.exp (Host.divf
    (mulf (broadcastInDim S256x32x1024x11 ![] bcast_S_S256x32x1024x11 (constant S_ .f32 0xBF000000#32)) (mulf t t))
    (broadcastInDim S256x32x1024x11 ![0, 1, 2, 3] bcast_S1x1x1x11_S256x32x1024x11_0_1_2_3
      (broadcastInDim S1x1x1x11 ![3] bcast_S11_S1x1x1x11_3 (mulf w w))))) (constant S_ .f32 0x00000000#32)
    reducesTo_S256x32x1024x11_S256x32x11_d2 h_S_)) (constant S_ .f32 0x00000000#32) reducesTo_S256x32x11_S256x11_d1 h_S_

/-- They are the specification's. -/
theorem totals_at (t : Vec Ideal S256x32x1024x11 .f32) (n : Fin 3) (b : Fin 256)
    (h : ∀ p r k, t (ix4 b p r k)
      = Spec.similarity (argW V0) (argβ V0) (queryRows V0 b) (docRows V0 b) n (p : Fin 32) (r : Fin 1024) - Spec.centre k) (k : Fin 11) :
    totals t (res_main_v1 V0) (ix2 b k) = ∑ p : Fin 32, Spec.count (argW V0) (argβ V0) (queryRows V0 b) (docRows V0 b) n k p := by
  pointwise [totals, Spec.count]
  simp only [h, spread_at, minus_half]
  refine Finset.sum_congr rfl fun p _ => congrArg Ideal.log1p (Finset.sum_congr rfl fun r _ => ?_)
  exact Spec.exp_div_eq _ _ (Spec.similarity_real _ _ _ _ _ _ _)

/-- The reference's result, from its three totals and the last layer's weights. -/
def result {F : FTy → Type} [FloatOps F] (t0 t1 t2 : Vec F S256x11 .f32) (lw : Vec F S1x33 .f32) : Vec F S256x1x1 .f32 :=
  broadcastInDim S256x1x1 ![0] bcast_S256_S256x1x1_0 (shapeCast S256 (Host.dotGeneral dot_S256x33_S33x1_S256x1_1_0_0_1_n_n none
    (concatenate S256x33 1 [⟨S256x11, t0⟩, ⟨S256x11, t1⟩, ⟨S256x11, t2⟩] concatenates_S256x11_S256x11_S256x11_S256x33_d1)
    (transpose S33x1 [1, 0] lw transposes_S1x33_S33x1_1_0)) shapeCasts_S256x1_S256)

/-- Its entry. -/
theorem result_at (t0 t1 t2 : Vec Ideal S256x11 .f32) (lw : Vec Ideal S1x33 .f32) (b : Fin 256) :
    result t0 t1 t2 lw (ix3 b 0 0)
      = ∑ i : Fin 33, (![t0, t1, t2] : Fin 3 → Vec Ideal S256x11 .f32) (Spec.width i) (ix2 b (Spec.bin i)) * lw (ix2 0 i) := by
  pointwise [result]
  refine Finset.sum_congr rfl fun i _ => congrArg (· * _) ?_
  fin_cases i <;> rfl

end Cert.ReferenceIdeal.Score

end
-- ==== Proof.Equation.lean ====
/-
  The equation: under the precondition the kernel's array and the reference's are the same scores.
-/
module

public import proofs.«01_k».proof.Proof.KernelHost
public import proofs.«01_k».proof.Proof.Reference
public import proofs.«01_k».proof.Pre_ids_and_rows

@[expose] public section

set_option maxRecDepth 16384

noncomputable section

namespace Cert.Proof.Equation

open Idealize.ShloMosaic Idealize.ShloMosaic.TcCoe Idealize.SL.Sem Cert.Proof

/-- Query `b`'s score against its document, from the arguments: the rows looked up, each over its length, then `Spec.score`. -/
def value (q : IVec ⟨3, ![256, 32, 1]⟩ 32) (d : IVec ⟨3, ![256, 1024, 1]⟩ 32) (emb : Vec Ideal ⟨2, ![50000, 128]⟩ .f32)
    (W : Fin 3 → Fin 3 → Fin 128 → Fin 128 → EReal) (β : Fin 3 → Fin 128 → EReal) (lw : Vec Ideal ⟨2, ![1, 33]⟩ .f32)
    (b : Fin 256) : EReal :=
  Spec.score W β (Spec.padded 32 fun l => Spec.unitRow fun e => emb (ix2 (Lookup.row (q (ix3 b l 0))) e))
    (Spec.padded 1024 fun l => Spec.unitRow fun e => emb (ix2 (Lookup.row (d (ix3 b l 0))) e)) fun i => lw (ix2 0 i)

/-- An index of the result array is a query's number. -/
theorem only (i : (⟨3, ![256, 1, 1]⟩ : Shape).Idx) : ∃ b : Fin 256, i = ix3 b 0 0 := by
  refine ⟨i 0, ?_⟩
  funext a
  match a with
  | ⟨0, _⟩ => rfl
  | ⟨1, _⟩ => exact Fin.ext (by have : (i 1).val < 1 := (i 1).isLt; show (i 1).val = 0; omega)
  | ⟨2, _⟩ => exact Fin.ext (by have : (i 2).val < 1 := (i 2).isLt; show (i 2).val = 0; omega)

/-- What the precondition says of the arguments. -/
structure Good (q : IVec ⟨3, ![256, 32, 1]⟩ 32) (d : IVec ⟨3, ![256, 1024, 1]⟩ 32) (emb : Vec Ideal ⟨2, ![50000, 128]⟩ .f32) : Prop where
  q_nonneg : ∀ i, 0 ≤ (q i).toInt
  q_lt : ∀ i, (q i).toInt < 50000
  d_nonneg : ∀ i, 0 ≤ (d i).toInt
  d_lt : ∀ i, (d i).toInt < 50000
  q_pos : ∀ b l, 0 < ∑ e : Fin 128, emb (ix2 (Lookup.row (q (ix3 b l 0))) e) * emb (ix2 (Lookup.row (q (ix3 b l 0))) e)
  d_pos : ∀ b l, 0 < ∑ e : Fin 128, emb (ix2 (Lookup.row (d (ix3 b l 0))) e) * emb (ix2 (Lookup.row (d (ix3 b l 0))) e)

/-- A test of both ends of the range, passed, gives both bounds. -/
theorem bounds (i : BitVec 32) (h : IntOp.andi (IntOp.cmpi .sge i 0#32) (IntOp.cmpi .slt i 50000#32) = 1#1) :
    0 ≤ i.toInt ∧ i.toInt < 50000 := by
  have h0 : (0#32 : BitVec 32).toInt = 0 := by decide
  have h1 : (50000#32 : BitVec 32).toInt = 50000 := by decide
  have both : ∀ a b : BitVec 1, IntOp.andi a b = 1#1 → a = 1#1 ∧ b = 1#1 := by decide
  obtain ⟨ha, hb⟩ := both _ _ h
  have := IntOp.cmpi_sge.mp ha
  have := IntOp.cmpi_slt.mp hb
  omega

section Precondition
open Cert.Pre_ids_and_rows Cert.Pre_ids_and_rows.Facts
variable [Facts]

/-- The test of the query's rows, passed, gives a positive sum of squares. -/
theorem query_pos (x : FVec Ideal S256x32x128 .f32) (b : Fin 256) (l : Fin 32)
    (h : cmpf .ogt (Host.reduceAdd (mulf x x) (constant S_ .f32 0x00000000#32) reducesTo_S256x32x128_S256x32_d2 h_S_)
      (broadcastInDim S256x32 ![] bcast_S_S256x32 (constant S_ .f32 0x00000000#32)) (ix2 b l) = 1#1) :
    0 < ∑ e : Fin 128, x (ix3 b l e) * x (ix3 b l e) := by
  pointwise at h
  by_contra hn
  rw [decide_eq_false hn] at h
  exact absurd h (by decide)

/-- The test of the document's rows likewise. -/
theorem doc_pos (x : FVec Ideal S256x1024x128 .f32) (b : Fin 256) (l : Fin 1024)
    (h : cmpf .ogt (Host.reduceAdd (mulf x x) (constant S_ .f32 0x00000000#32) reducesTo_S256x1024x128_S256x1024_d2 h_S_)
      (broadcastInDim S256x1024 ![] bcast_S_S256x1024 (constant S_ .f32 0x00000000#32)) (ix2 b l) = 1#1) :
    0 < ∑ e : Fin 128, x (ix3 b l e) * x (ix3 b l e) := by
  pointwise at h
  by_contra hn
  rw [decide_eq_false hn] at h
  exact absurd h (by decide)

/-- The precondition's four arrays all ones: the bounds, and no row looked up of length zero. -/
theorem good_of_pre (a0 : IVec ⟨3, ![256, 32, 1]⟩ 32) (a1 : IVec ⟨3, ![256, 1024, 1]⟩ 32) (a2 a3 : IVec ⟨1, ![256]⟩ 32)
    (a4 : Vec Ideal ⟨2, ![50000, 128]⟩ .f32) (a5 : Vec Ideal ⟨3, ![128, 128, 1]⟩ .f32) (a6 : Vec Ideal ⟨1, ![128]⟩ .f32)
    (a7 : Vec Ideal ⟨3, ![128, 128, 2]⟩ .f32) (a8 : Vec Ideal ⟨1, ![128]⟩ .f32) (a9 : Vec Ideal ⟨3, ![128, 128, 3]⟩ .f32)
    (a10 : Vec Ideal ⟨1, ![128]⟩ .f32) (a11 : Vec Ideal ⟨2, ![1, 33]⟩ .f32)
    (h0 : ∀ i, (fn (F := Ideal) a0 a1 a2 a3 a4 a5 a6 a7 a8 a9 a10 a11).1 i = 1#1)
    (h1 : ∀ i, (fn (F := Ideal) a0 a1 a2 a3 a4 a5 a6 a7 a8 a9 a10 a11).2.1 i = 1#1)
    (h2 : ∀ i, (fn (F := Ideal) a0 a1 a2 a3 a4 a5 a6 a7 a8 a9 a10 a11).2.2.1 i = 1#1)
    (h3 : ∀ i, (fn (F := Ideal) a0 a1 a2 a3 a4 a5 a6 a7 a8 a9 a10 a11).2.2.2 i = 1#1) : Good a0 a1 a4 := by
  have hq : ∀ i, 0 ≤ (a0 i).toInt ∧ (a0 i).toInt < 50000 := fun i => bounds _ (h0 i)
  have hd : ∀ i, 0 ≤ (a1 i).toInt ∧ (a1 i).toInt < 50000 := fun i => bounds _ (h1 i)
  refine ⟨fun i => (hq i).1, fun i => (hq i).2, fun i => (hd i).1, fun i => (hd i).2, fun b l => ?_, fun b l => ?_⟩
  · have h := query_pos (Host.gather gather_S50000x128_S256x32x1_S256x32x128_2_0_n_n_0_2_1128 a4
      (Cert.ReferenceIdeal.Score.queryIds a0)) b l (h2 (ix2 b l))
    have g := Cert.ReferenceIdeal.Score.query_gather ‹Facts›.gather_S50000x128_S256x32x1_S256x32x128_2_0_n_n_0_2_1128_wf a4 _ (fun i => (hq i).1) b l
    exact h.trans_eq (Finset.sum_congr rfl fun e _ => congrArg₂ (· * ·) (g e) (g e))
  · have h := doc_pos (Host.gather gather_S50000x128_S256x1024x1_S256x1024x128_2_0_n_n_0_2_1128 a4
      (Cert.ReferenceIdeal.Score.docIds a1)) b l (h3 (ix2 b l))
    have g := Cert.ReferenceIdeal.Score.doc_gather ‹Facts›.gather_S50000x128_S256x1024x1_S256x1024x128_2_0_n_n_0_2_1128_wf a4 _ (fun i => (hd i).1) b l
    exact h.trans_eq (Finset.sum_congr rfl fun e _ => congrArg₂ (· * ·) (g e) (g e))

end Precondition

section Kernel
open Cert.KernelIdeal Cert.KernelIdeal.Body Cert.KernelIdeal.Array

/-- A block's rows times their reciprocal roots are the rows looked up, over their lengths. -/
theorem scaled_eq {L : ℕ} (x : Fin L → Fin 128 → EReal) (t : Fin L → Fin 128 → EReal) (h : ∀ l e, x l e = t l e)
    (hp : ∀ l, 0 < ∑ e, t l e * t l e) : scaled x = fun l => Spec.unitRow (t l) := by
  obtain rfl : x = t := funext fun l => funext (h l)
  funext l e
  exact Spec.mul_rsqrt _ _ (hp l)

/-- The kernel's array. -/
theorem kernel_value (q : IVec S256x32x1 32) (d : IVec S256x1024x1 32) (emb : Vec Ideal S50000x128 .f32) (hg : Good q d emb)
    (w1 : Vec Ideal S128x128x1 .f32) (w2 : Vec Ideal S128x128x2 .f32) (w3 : Vec Ideal S128x128x3 .f32) (b1 b2 b3 : Vec Ideal S128 .f32)
    (lw : Vec Ideal S1x33 .f32) (b : Fin 256) :
    scores (queryTaken emb q) (docTaken emb d) (weights w1 w2 w3) (biases b1 b2 b3) lw (ix3 b 0 0)
      = value q d emb (Spec.convW w1 w2 w3) (Spec.convβ b1 b2 b3) lw b := by
  unfold value
  rw [scores_at, score_at, weights_at, biases_at,
    scaled_eq (queryRows (queryBlock (queryTaken emb q) b)) (fun l e => emb (ix2 (Lookup.row (q (ix3 b l 0))) e))
      (fun l e => queryTaken_at emb q hg.q_nonneg hg.q_lt b l e) (hg.q_pos b),
    scaled_eq (docRows (docBlock (docTaken emb d) b)) (fun l e => emb (ix2 (Lookup.row (d (ix3 b l 0))) e))
      (fun l e => docTaken_at emb d hg.d_nonneg hg.d_lt b l e) (hg.d_pos b)]

/-- The array the run leaves, from the arguments. -/
theorem kernel_array (m : (ℓ : Loc nD τ sig) → Buf (Elt Ideal) ℓ) (c : Dev nD)
    (hg : Good (m ((c : Thread nD τ).loc main_arg0)) (m ((c : Thread nD τ).loc main_arg1)) (m ((c : Thread nD τ).loc main_arg4)))
    (b : Fin 256) :
    (Cert.KernelIdeal.Gen.dats m 0 c).arrAt 5 cfg0.N (ix3 b 0 0)
      = value (m ((c : Thread nD τ).loc main_arg0)) (m ((c : Thread nD τ).loc main_arg1)) (m ((c : Thread nD τ).loc main_arg4))
        (Spec.convW (m ((c : Thread nD τ).loc main_arg5)) (m ((c : Thread nD τ).loc main_arg7)) (m ((c : Thread nD τ).loc main_arg9)))
        (Spec.convβ (m ((c : Thread nD τ).loc main_arg6)) (m ((c : Thread nD τ).loc main_arg8)) (m ((c : Thread nD τ).loc main_arg10)))
        (m ((c : Thread nD τ).loc main_arg11)) b := by
  rw [final5, V_query, V_doc, V_weights, V_biases]
  exact kernel_value _ _ _ hg _ _ _ _ _ _ _ b

end Kernel

section Reference
open Cert.ReferenceIdeal Cert.ReferenceIdeal.Value Cert.ReferenceIdeal.Score

variable (V0 : Valuation τ sig (Elt Ideal))

/-- The reference's array. -/
theorem reference_value (hg : Good (V0 (Proc.devRef .tc main_arg0)) (V0 (Proc.devRef .tc main_arg1)) (V0 (Proc.devRef .tc main_arg4)))
    (b : Fin 256) :
    result (totals (res_main_v47 V0) (res_main_v1 V0)) (totals (res_main_v96 V0) (res_main_v1 V0))
        (totals (res_main_v157 V0) (res_main_v1 V0)) (V0 (Proc.devRef .tc main_arg11)) (ix3 b 0 0)
      = value (V0 (Proc.devRef .tc main_arg0)) (V0 (Proc.devRef .tc main_arg1)) (V0 (Proc.devRef .tc main_arg4))
          (argW V0) (argβ V0) (V0 (Proc.devRef .tc main_arg11)) b := by
  have hq : Score.queryRows V0 b = Spec.padded 32 fun l => Spec.unitRow fun e =>
      V0 (Proc.devRef .tc main_arg4) (ix2 (Lookup.row (V0 (Proc.devRef .tc main_arg0) (ix3 b l 0))) e) := by
    refine congrArg (Spec.padded 32) (funext fun l => funext fun e => ?_)
    rw [queryUnit_at]
    simp only [queryRow_at V0 hg.q_nonneg]
  have hd : Score.docRows V0 b = Spec.padded 1024 fun l => Spec.unitRow fun e =>
      V0 (Proc.devRef .tc main_arg4) (ix2 (Lookup.row (V0 (Proc.devRef .tc main_arg1) (ix3 b l 0))) e) := by
    refine congrArg (Spec.padded 1024) (funext fun l => funext fun e => ?_)
    rw [docUnit_at]
    simp only [docRow_at V0 hg.d_nonneg]
  rw [result_at]
  unfold value Spec.score
  rw [← hq, ← hd]
  refine Finset.sum_congr rfl fun j _ => congrArg (· * _) ?_
  generalize Spec.bin j = k
  generalize Spec.width j = n
  match n with
  | 0 => exact totals_at V0 _ 0 b (apart_one V0 b) k
  | 1 => exact totals_at V0 _ 1 b (apart_two V0 b) k
  | 2 => exact totals_at V0 _ 2 b (apart_three V0 b) k

/-- The array its run leaves, from arguments that equal the kernel's. -/
theorem reference_array (q : IVec S256x32x1 32) (d : IVec S256x1024x1 32) (emb : Vec Ideal S50000x128 .f32) (hg : Good q d emb)
    (w1 : Vec Ideal S128x128x1 .f32) (w2 : Vec Ideal S128x128x2 .f32) (w3 : Vec Ideal S128x128x3 .f32) (b1 b2 b3 : Vec Ideal S128 .f32)
    (lw : Vec Ideal S1x33 .f32) (h0 : V0 (Proc.devRef .tc main_arg0) = q) (h1 : V0 (Proc.devRef .tc main_arg1) = d)
    (h4 : V0 (Proc.devRef .tc main_arg4) = emb) (h5 : V0 (Proc.devRef .tc main_arg5) = w1) (h6 : V0 (Proc.devRef .tc main_arg6) = b1)
    (h7 : V0 (Proc.devRef .tc main_arg7) = w2) (h8 : V0 (Proc.devRef .tc main_arg8) = b2) (h9 : V0 (Proc.devRef .tc main_arg9) = w3)
    (h10 : V0 (Proc.devRef .tc main_arg10) = b3) (h11 : V0 (Proc.devRef .tc main_arg11) = lw) (b : Fin 256) :
    result (totals (res_main_v47 V0) (res_main_v1 V0)) (totals (res_main_v96 V0) (res_main_v1 V0))
        (totals (res_main_v157 V0) (res_main_v1 V0)) (V0 (Proc.devRef .tc main_arg11)) (ix3 b 0 0)
      = value q d emb (Spec.convW w1 w2 w3) (Spec.convβ b1 b2 b3) lw b := by
  subst h0 h1 h4 h5 h6 h7 h8 h9 h10 h11
  exact reference_value V0 hg b

end Reference

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_ids_and_rows
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference's run ends with its arguments unchanged and its counters at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants are what their names say. -/
theorem preserves : Cert.preserves_Kernel_KernelIdeal :=
  ⟨IdealRules.named_const.statement Cert.KernelIdeal.κ "wide" .f32 0xC29044FE#32 (((-50) * (Real.log 2)⁻¹ : ℝ) : EReal) rfl,
    IdealRules.named_const.statement Cert.KernelIdeal.κ "exact" .f32 0xC9301C38#32 (((-500000) * (Real.log 2)⁻¹ : ℝ) : EReal) rfl⟩

/-- The kernel's array and the reference's are the same scores. -/
theorem algebraic : Cert.algebraic_KernelIdeal_ReferenceIdeal_pre_ids_and_rows (hKernelIdeal := Cert.KernelIdeal.Gen.facts)
    (hReferenceIdeal := Cert.ReferenceIdeal.Gen.facts) (hPre_ids_and_rows := Cert.Pre_ids_and_rows.Gen.facts) := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hpre c
  have hg := Equation.good_of_pre _ _ _ _ _ _ _ _ _ _ _ _ (congrFun h0) (congrFun h1) (congrFun h2) (congrFun h3)
  obtain ⟨a0, a1, -, -, a4, a5, a6, a7, a8, a9, a10, a11⟩ := hagree c
  funext i
  obtain ⟨b, rfl⟩ := Equation.only i
  exact (Equation.reference_array (StableHlo.launchContents m' c) _ _ _ hg _ _ _ _ _ _ _ a0 a1 a4 a5 a6 a7 a8 a9 a10 a11 b).trans
    (Equation.kernel_array m c hg b).symm

/-- All the claims. -/
theorem claim : Cert.Claim :=
  ⟨Cert.Kernel.Gen.facts, Cert.KernelIdeal.Gen.facts, Cert.ReferenceIdeal.Gen.facts, Cert.Pre_ids_and_rows.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, preserves, algebraic⟩

end Cert.Proof

end
